-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positions_finite [hPre_positions_finite : Cert.Pre_positions_finite.Facts] (m : (ℓ : Loc Cert.KernelIdeal.nD Cert.KernelIdeal.τ Cert.KernelIdeal.sig) → Buf (Elt Ideal) ℓ) : Prop :=
  ∀ c : Dev Cert.KernelIdeal.nD,
    (Cert.Pre_positions_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_finite [hPre_positions_finite : Cert.Pre_positions_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_positions_finite [hKernelIdeal : Cert.KernelIdeal.Facts] [hPre_positions_finite : Cert.Pre_positions_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_positions_finite [hReferenceIdeal : Cert.ReferenceIdeal.Facts] [hPre_positions_finite : Cert.Pre_positions_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_positions_finite [hKernelIdeal : Cert.KernelIdeal.Facts] [hReferenceIdeal : Cert.ReferenceIdeal.Facts] [hPre_positions_finite : Cert.Pre_positions_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_positions_finite : Cert.Pre_positions_finite.Facts),
    quiescent_Kernel (hKernel := hKernel)
    ∧ quiescent_KernelIdeal (hKernelIdeal := hKernelIdeal)
    ∧ quiescent_KernelIdeal_pre_positions_finite (hKernelIdeal := hKernelIdeal) (hPre_positions_finite := hPre_positions_finite)
    ∧ quiescent_ReferenceIdeal (hReferenceIdeal := hReferenceIdeal)
    ∧ quiescent_ReferenceIdeal_pre_positions_finite (hReferenceIdeal := hReferenceIdeal) (hPre_positions_finite := hPre_positions_finite)
    ∧ preserves_Kernel_KernelIdeal
    ∧ algebraic_KernelIdeal_ReferenceIdeal_pre_positions_finite (hKernelIdeal := hKernelIdeal) (hReferenceIdeal := hReferenceIdeal) (hPre_positions_finite := hPre_positions_finite)
-- ==== Pre_positions_finite.lean ====
abbrev S16384x3 : Shape := ⟨2, ![16384, 3]⟩
abbrev S16384x512 : Shape := ⟨2, ![16384, 512]⟩
abbrev S2048x3 : Shape := ⟨2, ![2048, 3]⟩
abbrev S2048x512 : Shape := ⟨2, ![2048, 512]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S2048x3 : S_.BroadcastsInDim S2048x3 (![] : Fin 0 → Fin S2048x3.rank)
  reducesTo_S2048x3_S_d0_1 : S2048x3.ReducesTo [0, 1] S_

variable [Facts]

def fn {F : FTy → Type} [FloatOps F] (main_arg0 : FVec F S16384x3 .f32) (main_arg1 : FVec F S16384x512 .f32) (main_arg2 : FVec F S2048x3 .f32) (main_arg3 : FVec F S2048x512 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S2048x3 .f32 := Host.absf main_arg2
  let main_cst_0 : FVec F S_ .f32 := constant S_ .f32 0x7F800000#32
  let main_v5 : FVec F S2048x3 .f32 := broadcastInDim S2048x3 ![] bcast_S_S2048x3 main_cst_0
  let main_v6 : IVec S2048x3 1 := cmpf .olt main_v4 main_v5
  let main_c_1 : IVec S_ 1 := constantI S_ 1 1#1
  let main_v7 : IVec S_ 1 := (fun x v => Host.reduce IntOp.andi x v reducesTo_S2048x3_S_d0_1 h_S_) main_v6 main_c_1
  let main_v8 : IVec S_ 1 := andi main_v3 main_v7
  main_v8
-- ==== Kernel.lean ====
abbrev S16384x3 : Shape := ⟨2, ![16384, 3]⟩
abbrev S16384x512 : Shape := ⟨2, ![16384, 512]⟩
abbrev S2048x3 : Shape := ⟨2, ![2048, 3]⟩
abbrev S2048x512 : Shape := ⟨2, ![2048, 512]⟩
abbrev S_ : Shape := ⟨0, ![]⟩
abbrev S16384x8 : Shape := ⟨2, ![16384, 8]⟩
abbrev S2048x8 : Shape := ⟨2, ![2048, 8]⟩
abbrev S8x2048 : Shape := ⟨2, ![8, 2048]⟩
abbrev S16x128x128 : Shape := ⟨3, ![16, 128, 128]⟩
abbrev S16x1x512 : Shape := ⟨3, ![16, 1, 512]⟩
abbrev S16x16384 : Shape := ⟨2, ![16, 16384]⟩
abbrev S16x512 : Shape := ⟨2, ![16, 512]⟩
abbrev S512 : Shape := ⟨1, ![512]⟩
abbrev S1024 : Shape := ⟨1, ![1024]⟩
abbrev S8x128 : Shape := ⟨2, ![8, 128]⟩
abbrev S128x512 : Shape := ⟨2, ![128, 512]⟩
abbrev S1x128x128 : Shape := ⟨3, ![1, 128, 128]⟩
abbrev S1x1x512 : Shape := ⟨3, ![1, 1, 512]⟩
abbrev S16x128 : Shape := ⟨2, ![16, 128]⟩
abbrev S128 : Shape := ⟨1, ![128]⟩
abbrev S1x128 : Shape := ⟨2, ![1, 128]⟩
abbrev S16384 : Shape := ⟨1, ![16384]⟩
abbrev S16384x1 : Shape := ⟨2, ![16384, 1]⟩
abbrev S16384x128 : Shape := ⟨2, ![16384, 128]⟩
abbrev S128x128x128 : Shape := ⟨3, ![128, 128, 128]⟩
abbrev S128x128 : Shape := ⟨2, ![128, 128]⟩
abbrev S128x1x128 : Shape := ⟨3, ![128, 1, 128]⟩
abbrev S1 : Shape := ⟨1, ![1]⟩
abbrev S1x1x1 : Shape := ⟨3, ![1, 1, 1]⟩
abbrev S16x128x1 : Shape := ⟨3, ![16, 128, 1]⟩
abbrev S2048x128 : Shape := ⟨2, ![2048, 128]⟩
abbrev S16x1024 : Shape := ⟨2, ![16, 1024]⟩
abbrev S1024x512 : Shape := ⟨2, ![1024, 512]⟩
abbrev S1024x1 : Shape := ⟨2, ![1024, 1]⟩

abbrev nBuf : Space → Nat
  | .hbm => 22
  | .vmem => 15
  | .smem => 0
  | _ => 0

abbrev bufTy : (tb : Table) → Fin (tcTables nBuf tb) → BufTy
  | .hbm, ⟨0, _⟩ => ⟨S16384x3, .f32⟩
  | .hbm, ⟨1, _⟩ => ⟨S16384x512, .f32⟩
  | .hbm, ⟨2, _⟩ => ⟨S2048x3, .f32⟩
  | .hbm, ⟨3, _⟩ => ⟨S2048x512, .f32⟩
  | .hbm, ⟨4, _⟩ => ⟨S_, .i32⟩
  | .hbm, ⟨5, _⟩ => ⟨S_, .f32⟩
  | .hbm, ⟨6, _⟩ => ⟨S16384x8, .f32⟩
  | .hbm, ⟨7, _⟩ => ⟨S_, .i32⟩
  | .hbm, ⟨8, _⟩ => ⟨S_, .f32⟩
  | .hbm, ⟨9, _⟩ => ⟨S2048x8, .f32⟩
  | .hbm, ⟨10, _⟩ => ⟨S8x2048, .f32⟩
  | .hbm, ⟨11, _⟩ => ⟨S16x128x128, .f32⟩
  | .hbm, ⟨12, _⟩ => ⟨S16x1x512, .f32⟩
  | .hbm, ⟨13, _⟩ => ⟨S16x16384, .f32⟩
  | .hbm, ⟨14, _⟩ => ⟨S16x512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S1024, .f32⟩
  | .local _ .vmem, ⟨0, _⟩ => ⟨S8x128, .f32⟩
  | .local _ .vmem, ⟨1, _⟩ => ⟨S8x128, .f32⟩
  | .local _ .vmem, ⟨2, _⟩ => ⟨S16384x8, .f32⟩
  | .local _ .vmem, ⟨3, _⟩ => ⟨S128x512, .f32⟩
  | .local _ .vmem, ⟨4, _⟩ => ⟨S128x512, .f32⟩
  | .local _ .vmem, ⟨5, _⟩ => ⟨S1x128x128, .f32⟩
  | .local _ .vmem, ⟨6, _⟩ => ⟨S1x128x128, .f32⟩
  | .local _ .vmem, ⟨7, _⟩ => ⟨S1x1x512, .f32⟩
  | .local _ .vmem, ⟨8, _⟩ => ⟨S1x1x512, .f32⟩
  | .local _ .vmem, ⟨9, _⟩ => ⟨S16x128, .i32⟩
  | .local _ .vmem, ⟨10, _⟩ => ⟨S16x1024, .f32⟩
  | .local _ .vmem, ⟨11, _⟩ => ⟨S16x1024, .f32⟩
  | .local _ .vmem, ⟨12, _⟩ => ⟨S1024x512, .f32⟩
  | .local _ .vmem, ⟨13, _⟩ => ⟨S1024x512, .f32⟩
  | .local _ .vmem, ⟨14, _⟩ => ⟨S512, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_call0_v0 : Ref sig .tc := ⟨.hbm, 5, rfl⟩
abbrev main_call0_v0 : Ref sig .tc := ⟨.hbm, 6, rfl⟩
abbrev main_call0_c_0 : Ref sig .tc := ⟨.hbm, 7, rfl⟩
abbrev main_call0_call1_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3_0 : Ref sig .tc := ⟨.hbm, 11, rfl⟩
abbrev main_call0_v3_1 : Ref sig .tc := ⟨.hbm, 12, rfl⟩
abbrev main_call0_v4 : Ref sig .tc := ⟨.hbm, 13, rfl⟩
abbrev main_call0_v5 : Ref sig .tc := ⟨.hbm, 14, rfl⟩
abbrev main_call0_cst : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_128 : BitVec 32 := 0#32
  let c16_i32 : BitVec 32 := 16#32
  let v529 : BitVec 32 := Scalar.addi c0_i32_128 c16_i32
  let c1_i32_129 : BitVec 32 := 1#32
  ⟨c0_i32_128, v529, c1_i32_129⟩
def k0_off1 (k0_t1 : Fin k0_t1_loop.trips) : Fin 2 → Nat :=
  let c0_i32_128 : BitVec 32 := 0#32
  let c1_i32_129 : BitVec 32 := 1#32
  let arg7 : BitVec 32 := Scf.iv c0_i32_128 c1_i32_129 k0_t1
  let v539 : Index := Scalar.indexCast arg7
  let c0_133 : Index := 0#32
  ![v539.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def k1_cond1 (i : grid1.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_4 : BitVec 32 := 0#32
  let v10 : BitVec 1 := Scalar.cmpi .ne v9 c0_i32_4
  v10

def k1_cond2 (i : grid1.Coords) : BitVec 1 :=
  let arg0 : BitVec 32 := BitVec.ofNat 32 (i 0).val
  let c0_i32_5 : BitVec 32 := 0#32
  let v11 : BitVec 1 := Scalar.cmpi .ne arg0 c0_i32_5
  let v12 : BitVec 32 := Scalar.extui v11
  let c0_i32_6 : BitVec 32 := 0#32
  let v13 : BitVec 1 := Scalar.cmpi .ne v12 c0_i32_6
  v13

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S16x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== ReferenceIdeal.lean ====
abbrev S16384x3 : Shape := ⟨2, ![16384, 3]⟩
abbrev S16384x512 : Shape := ⟨2, ![16384, 512]⟩
abbrev S2048x3 : Shape := ⟨2, ![2048, 3]⟩
abbrev S2048x512 : Shape := ⟨2, ![2048, 512]⟩
abbrev S_ : Shape := ⟨0, ![]⟩
abbrev S512 : Shape := ⟨1, ![512]⟩
abbrev S2048 : Shape := ⟨1, ![2048]⟩
abbrev S2048x1 : Shape := ⟨2, ![2048, 1]⟩
abbrev S16384 : Shape := ⟨1, ![16384]⟩
abbrev S1x16384 : Shape := ⟨2, ![1, 16384]⟩
abbrev S2048x16384 : Shape := ⟨2, ![2048, 16384]⟩
abbrev S3x16384 : Shape := ⟨2, ![3, 16384]⟩
abbrev S2048x16 : Shape := ⟨2, ![2048, 16]⟩
abbrev S32768 : Shape := ⟨1, ![32768]⟩
abbrev S32768x1 : Shape := ⟨2, ![32768, 1]⟩
abbrev S1 : Shape := ⟨1, ![1]⟩
abbrev S1x1 : Shape := ⟨2, ![1, 1]⟩
abbrev S32768x512 : Shape := ⟨2, ![32768, 512]⟩
abbrev S1024 : Shape := ⟨1, ![1024]⟩

abbrev nBuf : Space → Nat
  | .hbm => 68
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x512, .f32⟩
  | .hbm, ⟨2, _⟩ => ⟨S2048x3, .f32⟩
  | .hbm, ⟨3, _⟩ => ⟨S2048x512, .f32⟩
  | .hbm, ⟨4, _⟩ => ⟨S_, .f32⟩
  | .hbm, ⟨5, _⟩ => ⟨S512, .f32⟩
  | .hbm, ⟨6, _⟩ => ⟨S2048x3, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S16384x3, .f32⟩
  | .hbm, ⟨11, _⟩ => ⟨S_, .f32⟩
  | .hbm, ⟨12, _⟩ => ⟨S16384, .f32⟩
  | .hbm, ⟨13, _⟩ => ⟨S1x16384, .f32⟩
  | .hbm, ⟨14, _⟩ => ⟨S2048x16384, .f32⟩
  | .hbm, ⟨15, _⟩ => ⟨S2048x16384, .f32⟩
  | .hbm, ⟨16, _⟩ => ⟨S2048x16384, .f32⟩
  | .hbm, ⟨17, _⟩ => ⟨S3x16384, .f32⟩
  | .hbm, ⟨18, _⟩ => ⟨S2048x16384, .f32⟩
  | .hbm, ⟨19, _⟩ => ⟨S_, .f32⟩
  | .hbm, ⟨20, _⟩ => ⟨S2048x16384, .f32⟩
  | .hbm, ⟨21, _⟩ => ⟨S2048x16384, .f32⟩
  | .hbm, ⟨22, _⟩ => ⟨S2048x16384, .f32⟩
  | .hbm, ⟨23, _⟩ => ⟨S_, .f32⟩
  | .hbm, ⟨24, _⟩ => ⟨S2048x16384, .f32⟩
  | .hbm, ⟨25, _⟩ => ⟨S2048x16384, .f32⟩
  | .hbm, ⟨26, _⟩ => ⟨S2048x16384, .f32⟩
  | .hbm, ⟨27, _⟩ => ⟨S2048x16384, .i32⟩
  | .hbm, ⟨28, _⟩ => ⟨S2048x16384, .f32⟩
  | .hbm, ⟨29, _⟩ => ⟨S2048x16384, .i32⟩
  | .hbm, ⟨30, _⟩ => ⟨S2048x16, .i32⟩
  | .hbm, ⟨31, _⟩ => ⟨S2048, .i32⟩
  | .hbm, ⟨32, _⟩ => ⟨S2048x16, .i32⟩
  | .hbm, ⟨33, _⟩ => ⟨S32768, .i32⟩
  | .hbm, ⟨34, _⟩ => ⟨S32768, .i32⟩
  | .hbm, ⟨35, _⟩ => ⟨S_, .i32⟩
  | .hbm, ⟨36, _⟩ => ⟨S32768, .i32⟩
  | .hbm, ⟨37, _⟩ => ⟨S32768, .i1⟩
  | .hbm, ⟨38, _⟩ => ⟨S_, .i32⟩
  | .hbm, ⟨39, _⟩ => ⟨S32768, .i32⟩
  | .hbm, ⟨40, _⟩ => ⟨S32768, .i32⟩
  | .hbm, ⟨41, _⟩ => ⟨S32768, .i32⟩
  | .hbm, ⟨42, _⟩ => ⟨S32768x1, .i32⟩
  | .hbm, ⟨43, _⟩ => ⟨S1, .i32⟩
  | .hbm, ⟨44, _⟩ => ⟨S_, .i32⟩
  | .hbm, ⟨45, _⟩ => ⟨S32768x1, .i32⟩
  | .hbm, ⟨46, _⟩ => ⟨S32768x1, .i1⟩
  | .hbm, ⟨47, _⟩ => ⟨S1x1, .i32⟩
  | .hbm, ⟨48, _⟩ => ⟨S32768x1, .i32⟩
  | .hbm, ⟨49, _⟩ => ⟨S32768x1, .i1⟩
  | .hbm, ⟨50, _⟩ => ⟨S32768x1, .i1⟩
  | .hbm, ⟨51, _⟩ => ⟨S_, .i1⟩
  | .hbm, ⟨52, _⟩ => ⟨S32768, .i1⟩
  | .hbm, ⟨53, _⟩ => ⟨S32768x512, .f32⟩
  | .hbm, ⟨54, _⟩ => ⟨S32768x512, .i1⟩
  | .hbm, ⟨55, _⟩ => ⟨S_, .f32⟩
  | .hbm, ⟨56, _⟩ => ⟨S32768x512, .f32⟩
  | .hbm, ⟨57, _⟩ => ⟨S32768x512, .f32⟩
  | .hbm, ⟨58, _⟩ => ⟨S_, .f32⟩
  | .hbm, ⟨59, _⟩ => ⟨S2048x512, .f32⟩
  | .hbm, ⟨60, _⟩ => ⟨S32768x1, .i32⟩
  | .hbm, ⟨61, _⟩ => ⟨S2048x512, .f32⟩
  | .hbm, ⟨62, _⟩ => ⟨S_, .f32⟩
  | .hbm, ⟨63, _⟩ => ⟨S512, .f32⟩
  | .hbm, ⟨64, _⟩ => ⟨S_, .f32⟩
  | .hbm, ⟨65, _⟩ => ⟨S512, .f32⟩
  | .hbm, ⟨66, _⟩ => ⟨S512, .f32⟩
  | .hbm, ⟨67, _⟩ => ⟨S1024, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_5 : Ref sig .tc := ⟨.hbm, 62, rfl⟩
abbrev main_v28 : Ref sig .tc := ⟨.hbm, 63, rfl⟩
abbrev main_cst_6 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩

abbrev nD : Nat := 1
abbrev τ : Topo := Topo.v7x

variable {F : FTy → Type} [FloatOps F]
-- ==== Proof.Select.lean ====
module

public import proofs.«01_k».proof.Proof.Gen.KernelIdeal.Skeleton
public import Idealize.ShloMosaic.Lib.Exec

@[expose] public section

/-! # The selection body in the words of its algorithm

For one block of 128 ligand atoms the kernel's first call computes the 16384 × 128 squared distances, cuts
the protein axis in 128 chunks of 128, keeps the five least entries of every chunk, and then sixteen times
takes the least of the chunks' heads. Here each of these steps is one named function over whole vectors, and
the printed body is shown to be the composition of them. -/

set_option maxRecDepth 65536

noncomputable section

namespace Cert.KernelIdeal.Select

open Cert.KernelIdeal Cert.KernelIdeal.Gen
open Idealize.ShloMosaic Idealize.SL.Sem

variable {F : FTy → Type} [FloatOps F]

/-- The squared distances of a block: `max (|x|² + |y|² - 2 x·y) 0`, ligand atoms along the lanes. -/
def dist (v0 : Vec F S8x128 .f32) (v2 : Vec F S16384x8 .f32) : FVec F S16384x128 .f32 :=
  have x : FVec F S8x128 .f32 := shapeCast S8x128 v0 shapeCasts_S8x128_S8x128
  have y : FVec F S16384x8 .f32 := shapeCast S16384x8 v2 shapeCasts_S16384x8_S16384x8
  have x2 : FVec F S16384x128 .f32 := broadcastTo S16384x128 (shapeCast S1x128
    (multiReduction .add [0] S128 (mulf x x) 0x00000000#32 reduces_S8x128_S128 (.inl rfl) rfl) shapeCasts_S128_S1x128) broadcasts_S1x128_S16384x128
  have y2 : FVec F S16384x128 .f32 := broadcastTo S16384x128 (shapeCast S16384x1
    (multiReduction .add [1] S16384 (mulf y y) 0x00000000#32 reduces_S16384x8_S16384 (.inl rfl) rfl) shapeCasts_S16384_S16384x1) broadcasts_S16384x1_S16384x128
  maximumf (subf (addf x2 y2) (mulf (broadcast S16384x128 (Scalar.ofBits .f32 0x40000000#32))
    (matmul dot_S16384x8_S8x128_S16384x128_1_0_0_1_n_n none y x (constant S16384x128 .f32 0x00000000#32))))
    (broadcast S16384x128 (Scalar.ofBits .f32 0x00000000#32))

/-! ## Extracting from the chunks -/

/-- The least entry of every chunk. -/
def chunkMin (c : FVec F S128x128x128 .f32) : FVec F S128x1x128 .f32 :=
  shapeCast S128x1x128 (multiReduction .minimumf [1] S128x128 c 0x7F800000#32 reduces_S128x128x128_S128x128 (.inl rfl) rfl) shapeCasts_S128x128_S128x1x128

/-- The position inside the chunk. -/
def inChunk : IVec S128x128x128 32 := iota .tc S128x128x128 32 [1] iota_S128x128x128_d1_w32

/-- The first position at which a chunk's least entry stands. -/
def chunkPos (c : FVec F S128x128x128 .f32) : IVec S128x1x128 32 :=
  shapeCast S128x1x128 (multiReductionI .minsi [1] S128x128
    (select (cmpf .oeq c (broadcastTo S128x128x128 (chunkMin c) broadcasts_S128x1x128_S128x128x128)) inChunk (broadcast S128x128x128 1073741824#32))
    2147483647#32 reduces_S128x128x128_S128x128 rfl) shapeCasts_S128x128_S128x1x128

/-- The chunks with their least entry struck out by an infinite one. -/
def chunkNext (c : FVec F S128x128x128 .f32) : FVec F S128x128x128 .f32 :=
  select (cmpi .eq inChunk (broadcastTo S128x128x128 (chunkPos c) broadcasts_S128x1x128_S128x128x128))
    (broadcast S128x128x128 (Scalar.ofBits .f32 0x7F800000#32)) c

/-- The number of a chunk. -/
def chunkNo : IVec S128x128 32 := iota .tc S128x128 32 [0] iota_S128x128_d0_w32

/-- A chunk's least entry, as a row of heads. -/
def headV (c : FVec F S128x128x128 .f32) : FVec F S128x128 .f32 :=
  shapeCast S128x128 (chunkMin c) shapeCasts_S128x1x128_S128x128

/-- The atom at which a chunk's least entry stands: position in the chunk plus 128 times the chunk's number. -/
def headG (c : FVec F S128x128x128 .f32) : IVec S128x128 32 :=
  addi (shapeCast S128x128 (chunkPos c) shapeCasts_S128x1x128_S128x128) (muli chunkNo (broadcast S128x128 128#32))

/-! ## Taking the heads -/

/-- The five stored entries of every chunk, least first, and whether a chunk has run out of stored entries. -/
structure Heads (F : FTy → Type) where
  /-- a chunk has run out -/
  fl : IVec S128x128 1
  /-- the head's distance -/
  v0 : FVec F S128x128 .f32
  /-- the head's atom -/
  g0 : IVec S128x128 32
  /-- the second's distance -/
  v1 : FVec F S128x128 .f32
  /-- the second's atom -/
  g1 : IVec S128x128 32
  /-- the third's distance -/
  v2 : FVec F S128x128 .f32
  /-- the third's atom -/
  g2 : IVec S128x128 32
  /-- the fourth's distance -/
  v3 : FVec F S128x128 .f32
  /-- the fourth's atom -/
  g3 : IVec S128x128 32
  /-- the fifth's distance -/
  v4 : FVec F S128x128 .f32
  /-- the fifth's atom -/
  g4 : IVec S128x128 32

/-- The atom of the least head of every column. -/
def pick (v : FVec F S128x128 .f32) (g : IVec S128x128 32) : IVec S1x128 32 :=
  shapeCast S1x128 (multiReductionI .minsi [0] S128
    (select (cmpf .oeq v (broadcastTo S128x128 (shapeCast S1x128
      (multiReduction .minimumf [0] S128 v 0x7F800000#32 reduces_S128x128_S128 (.inl rfl) rfl) shapeCasts_S128_S1x128) broadcasts_S1x128_S128x128))
      g (broadcast S128x128 1073741824#32)) 2147483647#32 reduces_S128x128_S128 rfl) shapeCasts_S128_S1x128

/-- The selected atom of every column. -/
def Heads.sel (s : Heads F) : IVec S1x128 32 := pick s.v0 s.g0

/-- The chunk the selected atom belongs to. -/
def Heads.win (s : Heads F) : IVec S128x128 1 := cmpi .eq s.g0 (broadcastTo S128x128 s.sel broadcasts_S1x128_S128x128)

/-- An infinite distance everywhere. -/
def inf2 : FVec F S128x128 .f32 := broadcast S128x128 (Scalar.ofBits .f32 0x7F800000#32)

/-- One round: the winning chunk moves up by one stored entry, and is flagged when there is none. -/
def Heads.next (s : Heads F) : Heads F where
  fl := ori s.fl (andi s.win (cmpf .oeq (absf s.v1) inf2))
  v0 := select s.win s.v1 s.v0
  g0 := select s.win s.g1 s.g0
  v1 := select s.win s.v2 s.v1
  g1 := select s.win s.g2 s.g1
  v2 := select s.win s.v3 s.v2
  g2 := select s.win s.g3 s.g2
  v3 := select s.win s.v4 s.v3
  g3 := select s.win s.g4 s.g3
  v4 := select s.win inf2 s.v4
  g4 := s.g4

/-- The heads before the first round, from the chunks after 0, 1, 2, 3, 4 extractions. -/
def start (c0 c1 c2 c3 c4 : FVec F S128x128x128 .f32) : Heads F where
  fl := broadcast S128x128 0#1
  v0 := headV c0
  g0 := headG c0
  v1 := headV c1
  g1 := headG c1
  v2 := headV c2
  g2 := headG c2
  v3 := headV c3
  g3 := headG c3
  v4 := headV c4
  g4 := headG c4

/-- The chunks of a block. -/
def chunks (d : FVec F S16384x128 .f32) : FVec F S128x128x128 .f32 := shapeCast S128x128x128 d shapeCasts_S16384x128_S128x128x128

/-- The chunks after `k` extractions. -/
def chunkAt (d : FVec F S16384x128 .f32) : ℕ → FVec F S128x128x128 .f32
  | 0 => chunks d
  | k + 1 => chunkNext (chunkAt d k)

/-- The heads before round `t`. -/
def headsAt (d : FVec F S16384x128 .f32) : ℕ → Heads F
  | 0 => start (chunkAt d 0) (chunkAt d 1) (chunkAt d 2) (chunkAt d 3) (chunkAt d 4)
  | t + 1 => (headsAt d t).next

/-- Sixteen rows of atoms as one array. -/
def stack (r0 r1 r2 r3 r4 r5 r6 r7 r8 r9 r10 r11 r12 r13 r14 r15 : IVec S1x128 32) : IVec S16x128 32 :=
  shapeCast S16x128 (concatenate S16x128 0 [⟨S1x128, r0⟩, ⟨S1x128, r1⟩, ⟨S1x128, r2⟩, ⟨S1x128, r3⟩, ⟨S1x128, r4⟩, ⟨S1x128, r5⟩,
    ⟨S1x128, r6⟩, ⟨S1x128, r7⟩, ⟨S1x128, r8⟩, ⟨S1x128, r9⟩, ⟨S1x128, r10⟩, ⟨S1x128, r11⟩, ⟨S1x128, r12⟩, ⟨S1x128, r13⟩,
    ⟨S1x128, r14⟩, ⟨S1x128, r15⟩] concatenates_S1x128_S1x128_S1x128_S1x128_S1x128_S1x128_S1x128_S1x128_S1x128_S1x128_S1x128_S1x128_S1x128_S1x128_S1x128_S1x128_S16x128_d0) shapeCasts_S16x128_S16x128

/-- The atoms the sixteen rounds select. -/
def fastRows (d : FVec F S16384x128 .f32) : IVec S16x128 32 :=
  stack (headsAt d 0).sel (headsAt d 1).sel (headsAt d 2).sel (headsAt d 3).sel (headsAt d 4).sel (headsAt d 5).sel
    (headsAt d 6).sel (headsAt d 7).sel (headsAt d 8).sel (headsAt d 9).sel (headsAt d 10).sel (headsAt d 11).sel
    (headsAt d 12).sel (headsAt d 13).sel (headsAt d 14).sel (headsAt d 15).sel

/-- The greatest flag of the block. -/
def flagged (fl : IVec S128x128 1) : IVec S1x1x1 32 :=
  shapeCast S1x1x1 (multiReductionI .maxsi [1, 2] S1 (shapeCast S1x128x128 (extui 32 fl natLt_1_32) shapeCasts_S128x128_S1x128x128)
    2147483648#32 reduces_S1x128x128_S1 rfl) shapeCasts_S1_S1x1x1

/-- Whether some chunk ran out of stored entries. -/
def overflow (d : FVec F S16384x128 .f32) : BitVec 1 :=
  Scalar.cmpi .ne (Scalar.extui (Scalar.cmpi .sgt (extractAt ![0, 0, 0] (flagged (headsAt d 15).fl) inpos_S1x1x1_p0_0_0) 0#32) : BitVec 32) 0#32

/-! ## The fallback -/

/-- One trip of the fallback: the least entry of every column goes to the trip's row and is struck out. -/
def trip (arg6 : Memref sig .tc .vmem S16x128 .i32) (k : Fin k0_t1_loop.trips) (x : FVec F S16384x128 .f32) :
    Prog (TpuEff nD τ sig (Elt F) Λ₀ .tc) (FVec F S16384x128 .f32) := do
  let _ : Vec F S1x128 .i32 ← Prog.lift (.load arg6 (Rect.unit (s := S16x128) (k0_off1 k) S1x128.size (k0_off1_inb k)).toLoadRect (View.loadsAt_vmem h_S1x128))
  Prog.lift (.store arg6 (Rect.unit (s := S16x128) (k0_off1 k) S1x128.size (k0_off1_inb k)) (k0_pay188 x) Finset.univ (View.stores_vmem_bits_univ h_S1x128 rfl) (.inl rfl))
  pure (k0_pay189 x)

/-- The rows go to the scratch buffer, the fallback overwrites them when a chunk ran out, and they are read back. -/
def settle (arg6 : Memref sig .tc .vmem S16x128 .i32) (d : FVec F S16384x128 .f32) (rows : IVec S16x128 32) (fl : IVec S1x1x1 32) :
    Prog (TpuEff nD τ sig (Elt F) Λ₀ .tc) (Vec F S16x128 .i32) := do
  let _ : Vec F S16x128 .i32 ← Prog.lift (.load arg6 (Rect.unit (s := S16x128) ![0, 0] S16x128.size inb_S16x128_S16x128_0_0).toLoadRect (View.loadsAt_vmem h_S16x128))
  Prog.lift (.store arg6 (Rect.unit (s := S16x128) ![0, 0] S16x128.size inb_S16x128_S16x128_0_0) rows Finset.univ (View.stores_vmem_bits_univ h_S16x128 rfl) (.inl rfl))
  if Scalar.cmpi .ne (Scalar.extui (Scalar.cmpi .sgt (extractAt ![0, 0, 0] fl inpos_S1x1x1_p0_0_0) 0#32) : BitVec 32) 0#32 = 1#1 then do
    let _ : FVec F S16384x128 .f32 ← Scf.Loop.for k0_t1_loop k0_t1_ok d (trip arg6)
    pure ⟨⟩
  else pure ⟨⟩
  let v : Vec F S16x128 .i32 ← Prog.lift (.load arg6 (Rect.unit (s := S16x128) ![0, 0] S16x128.size inb_S16x128_S16x128_0_0).toLoadRect (View.loadsAt_vmem h_S16x128))
  pure v

/-! ## The printed parts -/

section
variable (i : grid0.Coords) (arg1 : Memref sig .tc .vmem S8x128 .f32) (harg1 : arg1.IsWhole) (arg2 : Memref sig .tc .vmem S16384x8 .f32) (harg2 : arg2.IsWhole) (arg3 : Memref sig .tc .vmem S128x512 .f32) (harg3 : arg3.IsWhole) (arg4 : Memref sig .tc .vmem S1x128x128 .f32) (harg4 : arg4.IsWhole) (arg5 : Memref sig .tc .vmem S1x1x512 .f32) (harg5 : arg5.IsWhole) (arg6 : Memref sig .tc .vmem S16x128 .i32) (harg6 : arg6.IsWhole)

/-- The first part loads the two blocks, forms the distances and the first two heads of every chunk. -/
theorem part1 : k0_part1 (F := F) i arg1 harg1 arg2 harg2 arg3 harg3 arg4 harg4 arg5 harg5 arg6 harg6 = (do
    let v0 : Vec F S8x128 .f32 ← Prog.lift (.load arg1 (Rect.unit (s := S8x128) ![0, 0] S8x128.size inb_S8x128_S8x128_0_0).toLoadRect (View.loadsAt_vmem h_S8x128))
    let v2 : Vec F S16384x8 .f32 ← Prog.lift (.load arg2 (Rect.unit (s := S16384x8) ![0, 0] S16384x8.size inb_S16384x8_S16384x8_0_0).toLoadRect (View.loadsAt_vmem h_S16384x8))
    pure ⟨dist v0 v2, inChunk, headV (chunkAt (dist v0 v2) 0), shapeCast S128x128 (chunkPos (chunkAt (dist v0 v2) 0)) shapeCasts_S128x1x128_S128x128,
      chunkAt (dist v0 v2) 1, chunkMin (chunkAt (dist v0 v2) 1), chunkPos (chunkAt (dist v0 v2) 1)⟩) := rfl

/-- The second part extracts the remaining heads of every chunk. -/
theorem part2 (c : FVec F S128x128x128 .f32) :
    k0_part2 (F := F) i arg1 harg1 arg2 harg2 arg3 harg3 arg4 harg4 arg5 harg5 arg6 harg6 inChunk c (chunkMin c) (chunkPos c)
      = pure ⟨headV c, shapeCast S128x128 (chunkPos c) shapeCasts_S128x1x128_S128x128,
        headV (chunkNext c), shapeCast S128x128 (chunkPos (chunkNext c)) shapeCasts_S128x1x128_S128x128,
        headV (chunkNext (chunkNext c)), shapeCast S128x128 (chunkPos (chunkNext (chunkNext c))) shapeCasts_S128x1x128_S128x128,
        headV (chunkNext (chunkNext (chunkNext c))), shapeCast S128x128 (chunkPos (chunkNext (chunkNext (chunkNext c)))) shapeCasts_S128x1x128_S128x128,
        chunkNo, muli chunkNo (broadcast S128x128 128#32)⟩ := rfl

/-- The third part is the first round. -/
theorem part3 (v29 : FVec F S128x128 .f32) (v30 : IVec S128x128 32) (v43 : FVec F S128x128 .f32) (v44 : IVec S128x128 32) (v57 : FVec F S128x128 .f32) (v58 : IVec S128x128 32) (v71 : FVec F S128x128 .f32) (v72 : IVec S128x128 32) (v85 : FVec F S128x128 .f32) (v86 : IVec S128x128 32) (v87 v88 : IVec S128x128 32) (s : Heads F) (hv : v88 = muli v87 (broadcast S128x128 128#32))
    (hs : s = ⟨broadcast S128x128 0#1, v29, addi v30 v88, v43, addi v44 v88, v57, addi v58 v88, v71, addi v72 v88, v85, addi v86 v88⟩) :
    k0_part3 (F := F) i arg1 harg1 arg2 harg2 arg3 harg3 arg4 harg4 arg5 harg5 arg6 harg6
      v29 v30 v43 v44 v57 v58 v71 v72 v85 v86 v87 v88
      = pure ⟨s.next.g4, s.sel, s.next.fl, s.next.v0, s.next.g0, s.next.v1, s.next.g1,
          s.next.v2, s.next.g2, s.next.v3, s.next.g3, s.next.v4, s.next.sel⟩ := by
  subst hs
  subst hv
  rfl

-- The pointwise operations stay closed while two rounds are compared: both sides apply the same ones.
attribute [local irreducible] select cmpi cmpf andi ori broadcast broadcastTo shapeCast multiReduction multiReductionI absf concatenate extui

/-- Part 4 is two rounds. -/
theorem part4 (s : Heads F) (g : IVec S128x128 32) (hg : g = s.g4) :
    k0_part4 (F := F) i arg1 harg1 arg2 harg2 arg3 harg3 arg4 harg4 arg5 harg5 arg6 harg6
      g s.fl s.v0 s.g0 s.v1 s.g1 s.v2 s.g2 s.v3 s.g3 s.v4 s.sel
      = pure ⟨s.next.sel, s.next.next.fl, s.next.next.v0, s.next.next.g0, s.next.next.v1, s.next.next.g1,
          s.next.next.v2, s.next.next.g2, s.next.next.v3, s.next.next.g3, s.next.next.v4, s.next.next.sel⟩ := by subst hg; rfl

/-- Part 5 is two rounds. -/
theorem part5 (s : Heads F) (g : IVec S128x128 32) (hg : g = s.g4) :
    k0_part5 (F := F) i arg1 harg1 arg2 harg2 arg3 harg3 arg4 harg4 arg5 harg5 arg6 harg6
      g s.fl s.v0 s.g0 s.v1 s.g1 s.v2 s.g2 s.v3 s.g3 s.v4 s.sel
      = pure ⟨s.next.sel, s.next.next.fl, s.next.next.v0, s.next.next.g0, s.next.next.v1, s.next.next.g1,
          s.next.next.v2, s.next.next.g2, s.next.next.v3, s.next.next.g3, s.next.next.v4, s.next.next.sel⟩ := by subst hg; rfl

/-- Part 6 is two rounds. -/
theorem part6 (s : Heads F) (g : IVec S128x128 32) (hg : g = s.g4) :
    k0_part6 (F := F) i arg1 harg1 arg2 harg2 arg3 harg3 arg4 harg4 arg5 harg5 arg6 harg6
      g s.fl s.v0 s.g0 s.v1 s.g1 s.v2 s.g2 s.v3 s.g3 s.v4 s.sel
      = pure ⟨s.next.sel, s.next.next.fl, s.next.next.v0, s.next.next.g0, s.next.next.v1, s.next.next.g1,
          s.next.next.v2, s.next.next.g2, s.next.next.v3, s.next.next.g3, s.next.next.v4, s.next.next.sel⟩ := by subst hg; rfl

/-- Part 7 is two rounds. -/
theorem part7 (s : Heads F) (g : IVec S128x128 32) (hg : g = s.g4) :
    k0_part7 (F := F) i arg1 harg1 arg2 harg2 arg3 harg3 arg4 harg4 arg5 harg5 arg6 harg6
      g s.fl s.v0 s.g0 s.v1 s.g1 s.v2 s.g2 s.v3 s.g3 s.v4 s.sel
      = pure ⟨s.next.sel, s.next.next.fl, s.next.next.v0, s.next.next.g0, s.next.next.v1, s.next.next.g1,
          s.next.next.v2, s.next.next.g2, s.next.next.v3, s.next.next.g3, s.next.next.v4, s.next.next.sel⟩ := by subst hg; rfl

/-- Part 8 is two rounds. -/
theorem part8 (s : Heads F) (g : IVec S128x128 32) (hg : g = s.g4) :
    k0_part8 (F := F) i arg1 harg1 arg2 harg2 arg3 harg3 arg4 harg4 arg5 harg5 arg6 harg6
      g s.fl s.v0 s.g0 s.v1 s.g1 s.v2 s.g2 s.v3 s.g3 s.v4 s.sel
      = pure ⟨s.next.sel, s.next.next.fl, s.next.next.v0, s.next.next.g0, s.next.next.v1, s.next.next.g1,
          s.next.next.v2, s.next.next.g2, s.next.next.v3, s.next.next.g3, s.next.next.v4, s.next.next.sel⟩ := by subst hg; rfl

/-- Part 9 is two rounds but for what the second leaves to the next part. -/
theorem part9 (s : Heads F) (g : IVec S128x128 32) (hg : g = s.g4) :
    k0_part9 (F := F) i arg1 harg1 arg2 harg2 arg3 harg3 arg4 harg4 arg5 harg5 arg6 harg6
      g s.fl s.v0 s.g0 s.v1 s.g1 s.v2 s.g2 s.v3 s.g3 s.v4 s.sel
      = pure ⟨s.next.sel, s.next.next.v0, s.next.next.g0, s.next.next.v1, s.next.next.g1,
          s.next.next.v2, s.next.next.g2, s.next.next.sel, s.next.next.win, s.next.next.next.fl⟩ := by subst hg; rfl

/-- Part 10 ends the rounds and goes on as `settle`. -/
theorem part10 (d : FVec F S16384x128 .f32) (r0 r1 r2 r3 r4 r5 r6 r7 r8 r9 r10 r11 r12 : IVec S1x128 32) (s : Heads F) :
    k0_part10 (F := F) i arg1 harg1 arg2 harg2 arg3 harg3 arg4 harg4 arg5 harg5 arg6 harg6 d
      r0 r1 r2 r3 r4 r5 r6 r7 r8 r9 r10 r11 r12 s.v0 s.g0 s.v1 s.g1 s.v2 s.g2 s.sel s.win s.next.fl
      = settle arg6 d (stack r0 r1 r2 r3 r4 r5 r6 r7 r8 r9 r10 r11 r12 s.sel s.next.sel s.next.next.sel) (flagged s.next.next.fl) := rfl

/-- A first step that returns a value can be dropped. -/
theorem step {α β : Type} {p : Prog (TpuEff nD τ sig (Elt F) Λ₀ .tc) α} {v : α} {f : α → Prog (TpuEff nD τ sig (Elt F) Λ₀ .tc) β}
    {q : Prog (TpuEff nD τ sig (Elt F) Λ₀ .tc) β} (h : p = pure v) (hq : f v = q) : p >>= f = q := by
  subst h
  exact hq

/-- The body: load the block, select, count the selected atoms, and the block's contribution to the plain sum. -/
theorem body_eq : cc0__select_body (F := F) i arg1 harg1 arg2 harg2 arg3 harg3 arg4 harg4 arg5 harg5 arg6 harg6 = (do
    let v0 : Vec F S8x128 .f32 ← Prog.lift (.load arg1 (Rect.unit (s := S8x128) ![0, 0] S8x128.size inb_S8x128_S8x128_0_0).toLoadRect (View.loadsAt_vmem h_S8x128))
    let v2 : Vec F S16384x8 .f32 ← Prog.lift (.load arg2 (Rect.unit (s := S16384x8) ![0, 0] S16384x8.size inb_S16384x8_S16384x8_0_0).toLoadRect (View.loadsAt_vmem h_S16384x8))
    let v479 : Vec F S16x128 .i32 ← settle arg6 (dist v0 v2) (fastRows (dist v0 v2)) (flagged (headsAt (dist v0 v2) 15).fl)
    let v524 : Vec F S128x512 .f32 ← k0_part11 i arg1 harg1 arg2 harg2 arg3 harg3 arg4 harg4 arg5 harg5 arg6 harg6 v479
    let _ : Vec F S1x1x512 .f32 ← Prog.lift (.load arg5 (Rect.unit (s := S1x1x512) ![0, 0, 0] S1x1x512.size inb_S1x1x512_S1x1x512_0_0_0).toLoadRect (View.loadsAt_vmem h_S1x1x512))
    Prog.lift (.store arg5 (Rect.unit (s := S1x1x512) ![0, 0, 0] S1x1x512.size inb_S1x1x512_S1x1x512_0_0_0) (k0_pay1 v524) Finset.univ (View.stores_vmem_bits_univ h_S1x1x512 rfl) (.inl rfl))
    pure ⟨⟩) := by
  rw [cc0__select_body_eq_skeleton]
  unfold cc0__select_body_skel
  rw [part1]
  simp only [bind_assoc, pure_bind]
  refine congrArg _ (funext fun v0 => ?_)
  refine congrArg _ (funext fun v2 => ?_)
  generalize dist v0 v2 = d
  refine step (part2 (c := chunkAt d 1) ..) ?_
  refine step (part3 (s := headsAt d 0) (hv := by rfl) (hs := by rfl) ..) ?_
  refine step (part4 (s := headsAt d 1) (hg := by rfl) ..) ?_
  refine step (part5 (s := headsAt d 3) (hg := by rfl) ..) ?_
  refine step (part6 (s := headsAt d 5) (hg := by rfl) ..) ?_
  refine step (part7 (s := headsAt d 7) (hg := by rfl) ..) ?_
  refine step (part8 (s := headsAt d 9) (hg := by rfl) ..) ?_
  refine step (part9 (s := headsAt d 11) (hg := by rfl) ..) ?_
  exact congrArg (· >>= _) (part10 (s := headsAt d 13) ..)

end

end Cert.KernelIdeal.Select
-- ==== Proof.SelectRun.lean ====
module

public import proofs.«01_k».proof.Proof.Select
public import proofs.«01_k».proof.Proof.Gen.KernelIdeal.Loops
public import Idealize.ShloMosaic.Lib.Tactic
public import Idealize.ShloMosaic.Lib.VecWindow
public import Idealize.ShloMosaic.Lib.WritesUnit
public import Idealize.ShloMosaic.Lib.ValueIdxCore

@[expose] public section

/-! # The selection body, run

The body is run from its six buffers held whole. What it leaves: the block of counts, a function of the selected
atoms, and the block's plain sum, a function of the features. The selected atoms are those of the sixteen rounds,
or those of the fallback when a chunk ran out of stored entries. -/

set_option maxRecDepth 16384

noncomputable section

namespace Cert.KernelIdeal.Select

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a memref's buffer may hold on a core. -/
abbrev Bf (c : Dev nD) {sp : Space} {S : Shape} {e : EltTy} (M : Memref sig .tc sp S e) : Type := Buf (Elt F) (M.view.loc (c : Thread nD τ))

/-- A memref's buffer held whole at a value. -/
abbrev pt (c : Dev nD) {sp : Space} {S : Shape} {e : EltTy} (M : Memref sig .tc sp S e) (f : Bf (F := F) c M) : sProp 𝕄 :=
  M.view.loc (c : Thread nD τ) ↦{fullShare} f

/-- The distances after `k` extractions of the fallback. -/
def strike (d : FVec F S16384x128 .f32) (k : ℕ) : FVec F S16384x128 .f32 := k0_pay189^[k] d

/-- The atoms the fallback selects: row `k` is the first least entry after `k` extractions. -/
def slowRows (d : FVec F S16384x128 .f32) : IVec S16x128 32 := fun j => k0_pay188 (strike d (j 0).val) (ix2 0 (j 1))

/-- The selected atoms of a block. -/
def chosen (d : FVec F S16384x128 .f32) : IVec S16x128 32 := if overflow d = 1#1 then slowRows d else fastRows d

/-- The rows after the fallback, which runs when the flag is set. -/
def settled (d : FVec F S16384x128 .f32) (rows : IVec S16x128 32) (fl : IVec S1x1x1 32) : IVec S16x128 32 :=
  if Scalar.cmpi .ne (Scalar.extui (Scalar.cmpi .sgt (extractAt ![0, 0, 0] fl inpos_S1x1x1_p0_0_0) 0#32) : BitVec 32) 0#32 = 1#1
  then slowRows d else rows

/-- Before trip `k`: `k` entries are struck out and the first `k` rows of the buffer are the fallback's. -/
def inv (c : Dev nD) (M : Memref sig .tc .vmem S16x128 .i32) (d : FVec F S16384x128 .f32) (k : ℕ) (acc : FVec F S16384x128 .f32) : sProp 𝕄 :=
  iprop(⌜acc = strike d k⌝ ∗ ∃ g : Bf (F := F) c M, pt c M g ∗ ⌜∀ j : S16x128.Idx, (j 0).val < k → M.view.read (Elt F) g j = slowRows d j⌝)

/-- The fallback makes sixteen trips. -/
theorem trips_eq : 16 = Scf.trips k0_t1_loop.lb k0_t1_loop.ub k0_t1_loop.st := by decide +kernel

/-- What a buffer reads after row `k` was stored: the row at `k`, what it read before elsewhere. -/
theorem read_row (c : Dev nD) (M : Memref sig .tc .vmem S16x128 .i32) (k : Fin k0_t1_loop.trips)
    (f : Bf (F := F) c M) (d : FVec F S16384x128 .f32)
    (hf : ∀ j : S16x128.Idx, (j 0).val < k.val → M.view.read (Elt F) f j = slowRows d j) (j : S16x128.Idx) (hj : (j 0).val < k.val + 1) :
    M.view.read (Elt F) (M.view.writes (Elt F) f [⟨Rect.unit (k0_off1 k) S1x128.size (k0_off1_inb k), k0_pay188 (strike d k.val)⟩]) j = slowRows d j := by
  by_cases h : (j 0).val < k.val
  · rw [← hf j h]
    exact View.read_writes_cons_rows_of_not_mem (W := 1) M.view f (k0_off1_inb k) _ [] j (k0_off1_eq k) rfl (Or.inl h)
  · have hjk : (j 0).val = k.val := by omega
    refine (View.read_writes_cons_rows_of_mem M.view f (k0_off1_inb k) _ [] j (ix2 0 (j 1)) (k0_off1_eq k) (by rw [hjk]; rfl) rfl).trans ?_
    unfold slowRows
    rw [hjk]

/-- The fallback keeps the invariant over one trip. -/
theorem trip_run (c : Dev nD) (M : Memref sig .tc .vmem S16x128 .i32) (d : FVec F S16384x128 .f32) (E : Set ℕ)
    (k : Fin k0_t1_loop.trips) (acc : FVec F S16384x128 .f32) :
    inv c M d k.val acc ⊢ wp frame (wpE (defs₀ (F := F)) Variants.none (c : Thread nD τ) none) E (trip M k acc) (inv c M d (k.val + 1)) := by
  have hk : k.val < 16 := Nat.lt_of_lt_of_le k.isLt k0_t1_abs.2.1
  unfold trip inv
  iintro ⟨%ha, %g, H, %hg⟩
  subst ha
  sl_exec
  sl_step
  isplitr
  · ipureintro
    exact (Function.iterate_succ_apply' _ _ _).symm
  iexists _
  isplitl [H]; · iexact H
  ipureintro
  exact read_row c M k g d hg

/-- Zero offsets, axis by axis. -/
theorem off2 : ∀ a : Fin 2, (![0, 0] : Fin 2 → ℕ) a = 0 := by decide
theorem off3 : ∀ a : Fin 3, (![0, 0, 0] : Fin 3 → ℕ) a = 0 := by decide

/-- A view stored whole reads what was stored. -/
theorem read_whole {κ : Kind} {sp : Space} {s : Shape} {e : EltTy} (v : View sig κ sp s e) (f : v.ty.Contents (Elt F)) {off : Fin s.rank → ℕ}
    (inb : ∀ a, off a + s.size a ≤ s.size a) (w : s.Idx → Elt F e) (h : ∀ a, off a = 0) :
    v.read (Elt F) (v.writes (Elt F) f [⟨Rect.unit off s.size inb, w⟩]) = w :=
  funext fun j => View.read_writes_cons_unit_of_mem v f inb w [] j j rfl fun a => by rw [h a, Nat.zero_add]

/-- A view stored whole and loaded whole gives back what was stored. -/
theorem readCov_whole {κ : Kind} {sp : Space} {s : Shape} {e : EltTy} (v : View sig κ sp s e) {off : Fin s.rank → ℕ}
    (inb : ∀ a, off a + s.size a ≤ s.size a) (w : s.Idx → Elt F e) (h : ∀ a, off a = 0) :
    v.readCov [⟨Rect.unit off s.size inb, w⟩] (Rect.unit off s.size inb).toLoadRect = w := by
  unfold View.readCov
  rw [View.readAt_full]
  exact read_whole v _ inb w h

/-- The rows as they are read back: the fallback's when the flag is set, the given ones otherwise. -/
theorem settle_run (c : Dev nD) (M : Memref sig .tc .vmem S16x128 .i32) (d : FVec F S16384x128 .f32) (rows : IVec S16x128 32) (fl : IVec S1x1x1 32)
    (f : Bf (F := F) c M) (E : Set ℕ) (Q : Vec F S16x128 .i32 → sProp 𝕄) :
    iprop(pt c M f ∗ (∀ g : Bf (F := F) c M, pt c M g -∗ Q (settled d rows fl)))
      ⊢ wp frame (wpE (defs₀ (F := F)) Variants.none (c : Thread nD τ) none) E (settle M d rows fl) Q := by
  unfold settle settled
  by_cases ho : Scalar.cmpi .ne (Scalar.extui (Scalar.cmpi .sgt (extractAt ![0, 0, 0] fl inpos_S1x1x1_p0_0_0) 0#32) : BitVec 32) 0#32 = 1#1
  · rw [if_pos ho, if_pos ho]
    iintro ⟨H, Hk⟩
    sl_exec
    sl_for (inv c M d) $$ [H]
    case region => exact fun k acc => trip_run c M d E k acc
    · unfold inv
      isplitr; · ipureintro; rfl
      iexists _
      isplitl [H]; · iexact H
      ipureintro
      exact fun j hj => absurd hj (Nat.not_lt_zero _)
    iintro %acc H
    unfold inv
    icases H with ⟨-, %g, H, %hg⟩
    sl_exec
    sl_step
    have he : View.readAt (Elt F) M.view (Rect.unit ![0, 0] S16x128.size inb_S16x128_S16x128_0_0).toLoadRect g = slowRows d :=
      (View.readAt_full M.view g inb_S16x128_S16x128_0_0).trans (funext fun j => hg j (lt_of_lt_of_eq (j 0).isLt trips_eq))
    rw [he]
    iapply Hk
    iexact H
  · rw [if_neg ho, if_neg ho]
    iintro ⟨H, Hk⟩
    sl_exec
    sl_step
    have he : settle_run.sl.v (F := F) M rows = rows := by
      unfold settle_run.sl.v settle_run.sl.H_1
      exact readCov_whole M.view inb_S16x128_S16x128_0_0 rows off2
    rw [he]
    iapply Hk
    iexact H

/-- The read-back at the flags and rows of the sixteen rounds is the block's selection. -/
theorem settled_eq (d : FVec F S16384x128 .f32) : settled d (fastRows d) (flagged (headsAt d 15).fl) = chosen d := by
  unfold settled chosen overflow
  with_reducible rfl

section
variable (i : grid0.Coords) (arg1 : Memref sig .tc .vmem S8x128 .f32) (harg1 : arg1.IsWhole) (arg2 : Memref sig .tc .vmem S16384x8 .f32) (harg2 : arg2.IsWhole) (arg3 : Memref sig .tc .vmem S128x512 .f32) (harg3 : arg3.IsWhole) (arg4 : Memref sig .tc .vmem S1x128x128 .f32) (harg4 : arg4.IsWhole) (arg5 : Memref sig .tc .vmem S1x1x512 .f32) (harg5 : arg5.IsWhole) (arg6 : Memref sig .tc .vmem S16x128 .i32) (harg6 : arg6.IsWhole)

/-- The body after the rows are settled: the counts of the rows, and the plain sum of the features. -/
def finish (v479 : Vec F S16x128 .i32) : Prog (TpuEff nD τ sig (Elt F) Λ₀ .tc) PUnit := do
  let v524 : Vec F S128x512 .f32 ← k0_part11 i arg1 harg1 arg2 harg2 arg3 harg3 arg4 harg4 arg5 harg5 arg6 harg6 v479
  let _ : Vec F S1x1x512 .f32 ← Prog.lift (.load arg5 (Rect.unit (s := S1x1x512) ![0, 0, 0] S1x1x512.size inb_S1x1x512_S1x1x512_0_0_0).toLoadRect (View.loadsAt_vmem h_S1x1x512))
  Prog.lift (.store arg5 (Rect.unit (s := S1x1x512) ![0, 0, 0] S1x1x512.size inb_S1x1x512_S1x1x512_0_0_0) (k0_pay1 v524) Finset.univ (View.stores_vmem_bits_univ h_S1x1x512 rfl) (.inl rfl))
  pure ⟨⟩

/-- The body after the two loads. -/
def afterLoads (d : FVec F S16384x128 .f32) (rows : IVec S16x128 32) (fl : IVec S1x1x1 32) : Prog (TpuEff nD τ sig (Elt F) Λ₀ .tc) PUnit := do
  let v479 : Vec F S16x128 .i32 ← settle arg6 d rows fl
  finish i arg1 harg1 arg2 harg2 arg3 harg3 arg4 harg4 arg5 harg5 arg6 harg6 v479

theorem body_eq' : cc0__select_body (F := F) i arg1 harg1 arg2 harg2 arg3 harg3 arg4 harg4 arg5 harg5 arg6 harg6 = (do
    let v0 : Vec F S8x128 .f32 ← Prog.lift (.load arg1 (Rect.unit (s := S8x128) ![0, 0] S8x128.size inb_S8x128_S8x128_0_0).toLoadRect (View.loadsAt_vmem h_S8x128))
    let v2 : Vec F S16384x8 .f32 ← Prog.lift (.load arg2 (Rect.unit (s := S16384x8) ![0, 0] S16384x8.size inb_S16384x8_S16384x8_0_0).toLoadRect (View.loadsAt_vmem h_S16384x8))
    afterLoads i arg1 harg1 arg2 harg2 arg3 harg3 arg4 harg4 arg5 harg5 arg6 harg6 (dist v0 v2) (fastRows (dist v0 v2)) (flagged (headsAt (dist v0 v2) 15).fl)) := by
  rw [body_eq]
  unfold afterLoads finish
  with_reducible rfl

end

/-- The end of the body. -/
theorem finish_run (c : Dev nD) (i : grid0.Coords) (arg1 : Memref sig .tc .vmem S8x128 .f32) (harg1 : arg1.IsWhole) (arg2 : Memref sig .tc .vmem S16384x8 .f32) (harg2 : arg2.IsWhole) (arg3 : Memref sig .tc .vmem S128x512 .f32) (harg3 : arg3.IsWhole) (arg4 : Memref sig .tc .vmem S1x128x128 .f32) (harg4 : arg4.IsWhole) (arg5 : Memref sig .tc .vmem S1x1x512 .f32) (harg5 : arg5.IsWhole) (arg6 : Memref sig .tc .vmem S16x128 .i32) (harg6 : arg6.IsWhole)
    (v479 : Vec F S16x128 .i32) (f3 : Bf (F := F) c arg3) (f4 : Bf (F := F) c arg4) (f5 : Bf (F := F) c arg5)
    (E : Set ℕ) (Q : PUnit → sProp 𝕄) :
    iprop(pt c arg3 f3 ∗ pt c arg4 f4 ∗ pt c arg5 f5
        ∗ (∀ (g4 : Bf (F := F) c arg4) (g5 : Bf (F := F) c arg5),
            ⌜arg4.view.read (Elt F) g4 = k0_pay190 (F := F) v479⌝ -∗ ⌜arg5.view.read (Elt F) g5 = k0_pay1 (F := F) (arg3.view.read (Elt F) f3)⌝
            -∗ pt c arg3 f3 -∗ pt c arg4 g4 -∗ pt c arg5 g5 -∗ Q ⟨⟩))
      ⊢ wp frame (wpE (defs₀ (F := F)) Variants.none (c : Thread nD τ) none) E (finish (F := F) i arg1 harg1 arg2 harg2 arg3 harg3 arg4 harg4 arg5 harg5 arg6 harg6 v479) Q := by
  unfold finish
  rw [k0_part11_eq_skeleton]
  unfold k0_part11_skel
  iintro ⟨H3, H4, H5, Hk⟩
  sl_exec
  sl_step
  iapply Hk $$ %_ %_ [] [] [H3] [H4] [H5]
  rotate_left 2
  · iexact H3
  · iexact H4
  · iexact H5
  · ipureintro
    exact read_whole arg4.view f4 inb_S1x128x128_S1x128x128_0_0_0 _ off3
  · ipureintro
    refine (read_whole arg5.view f5 inb_S1x1x512_S1x1x512_0_0_0 _ off3).trans ?_
    rw [View.readAt_full arg3.view f3 inb_S128x512_S128x512_0_0]

/-- The body after the two loads, run. -/
theorem afterLoads_run (c : Dev nD) (i : grid0.Coords) (arg1 : Memref sig .tc .vmem S8x128 .f32) (harg1 : arg1.IsWhole) (arg2 : Memref sig .tc .vmem S16384x8 .f32) (harg2 : arg2.IsWhole) (arg3 : Memref sig .tc .vmem S128x512 .f32) (harg3 : arg3.IsWhole) (arg4 : Memref sig .tc .vmem S1x128x128 .f32) (harg4 : arg4.IsWhole) (arg5 : Memref sig .tc .vmem S1x1x512 .f32) (harg5 : arg5.IsWhole) (arg6 : Memref sig .tc .vmem S16x128 .i32) (harg6 : arg6.IsWhole)
    (d : FVec F S16384x128 .f32) (rows : IVec S16x128 32) (fl : IVec S1x1x1 32) (f3 : Bf (F := F) c arg3) (f4 : Bf (F := F) c arg4) (f5 : Bf (F := F) c arg5) (f6 : Bf (F := F) c arg6)
    (E : Set ℕ) (Q : PUnit → sProp 𝕄) :
    iprop(pt c arg3 f3 ∗ pt c arg4 f4 ∗ pt c arg5 f5 ∗ pt c arg6 f6
        ∗ (∀ (g4 : Bf (F := F) c arg4) (g5 : Bf (F := F) c arg5) (g6 : Bf (F := F) c arg6),
            ⌜arg4.view.read (Elt F) g4 = k0_pay190 (F := F) (settled d rows fl)⌝ -∗ ⌜arg5.view.read (Elt F) g5 = k0_pay1 (F := F) (arg3.view.read (Elt F) f3)⌝
            -∗ pt c arg3 f3 -∗ pt c arg4 g4 -∗ pt c arg5 g5 -∗ pt c arg6 g6 -∗ Q ⟨⟩))
      ⊢ wp frame (wpE (defs₀ (F := F)) Variants.none (c : Thread nD τ) none) E (afterLoads (F := F) i arg1 harg1 arg2 harg2 arg3 harg3 arg4 harg4 arg5 harg5 arg6 harg6 d rows fl) Q := by
  unfold afterLoads
  rw [wp_bind]
  iintro ⟨H3, H4, H5, H6, Hk⟩
  iapply (settle_run c arg6 d rows fl f6 E _)
  isplitl [H6]; · iexact H6
  iintro %g6 H6
  iapply (finish_run c i arg1 harg1 arg2 harg2 arg3 harg3 arg4 harg4 arg5 harg5 arg6 harg6 (settled d rows fl) f3 f4 f5 E _)
  isplitl [H3]; · iexact H3
  isplitl [H4]; · iexact H4
  isplitl [H5]; · iexact H5
  iintro %g4 %g5 %h4 %h5 H3 H4 H5
  iapply Hk $$ %g4 %g5 %g6 [] [] [H3] [H4] [H5] [H6]
  · ipureintro; exact h4
  · ipureintro; exact h5
  · iexact H3
  · iexact H4
  · iexact H5
  · iexact H6

/-- The two loads, run, whatever follows them. -/
theorem loads_run (c : Dev nD) (arg1 : Memref sig .tc .vmem S8x128 .f32) (arg2 : Memref sig .tc .vmem S16384x8 .f32)
    (K : Vec F S8x128 .f32 → Vec F S16384x8 .f32 → Prog (TpuEff nD τ sig (Elt F) Λ₀ .tc) PUnit)
    (f1 : Bf (F := F) c arg1) (f2 : Bf (F := F) c arg2) (E : Set ℕ) (Q : PUnit → sProp 𝕄) :
    iprop(pt c arg1 f1 ∗ pt c arg2 f2 ∗ (pt c arg1 f1 -∗ pt c arg2 f2
        -∗ wp frame (wpE (defs₀ (F := F)) Variants.none (c : Thread nD τ) none) E (K (arg1.view.read (Elt F) f1) (arg2.view.read (Elt F) f2)) Q))
      ⊢ wp frame (wpE (defs₀ (F := F)) Variants.none (c : Thread nD τ) none) E (do
          let v0 : Vec F S8x128 .f32 ← Prog.lift (.load arg1 (Rect.unit (s := S8x128) ![0, 0] S8x128.size inb_S8x128_S8x128_0_0).toLoadRect (View.loadsAt_vmem h_S8x128))
          let v2 : Vec F S16384x8 .f32 ← Prog.lift (.load arg2 (Rect.unit (s := S16384x8) ![0, 0] S16384x8.size inb_S16384x8_S16384x8_0_0).toLoadRect (View.loadsAt_vmem h_S16384x8))
          K v0 v2) Q := by
  iintro ⟨H1, H2, Hk⟩
  sl_exec
  have e1 : View.readAt (Elt F) arg1.view (Rect.unit ![0, 0] S8x128.size inb_S8x128_S8x128_0_0).toLoadRect f1 = arg1.view.read (Elt F) f1 :=
    View.readAt_full arg1.view f1 inb_S8x128_S8x128_0_0
  have e2 : View.readAt (Elt F) arg2.view (Rect.unit ![0, 0] S16384x8.size inb_S16384x8_S16384x8_0_0).toLoadRect f2 = arg2.view.read (Elt F) f2 :=
    View.readAt_full arg2.view f2 inb_S16384x8_S16384x8_0_0
  rw [e1, e2]
  iapply Hk $$ [H1] [H2]
  · iexact H1
  · iexact H2

/-- The body from its six buffers held whole: the counts of the block's selection, and its features' plain sum. -/
theorem body_run (c : Dev nD) (i : grid0.Coords) (arg1 : Memref sig .tc .vmem S8x128 .f32) (harg1 : arg1.IsWhole) (arg2 : Memref sig .tc .vmem S16384x8 .f32) (harg2 : arg2.IsWhole) (arg3 : Memref sig .tc .vmem S128x512 .f32) (harg3 : arg3.IsWhole) (arg4 : Memref sig .tc .vmem S1x128x128 .f32) (harg4 : arg4.IsWhole) (arg5 : Memref sig .tc .vmem S1x1x512 .f32) (harg5 : arg5.IsWhole) (arg6 : Memref sig .tc .vmem S16x128 .i32) (harg6 : arg6.IsWhole)
    (f1 : Bf (F := F) c arg1) (f2 : Bf (F := F) c arg2) (f3 : Bf (F := F) c arg3) (f4 : Bf (F := F) c arg4) (f5 : Bf (F := F) c arg5) (f6 : Bf (F := F) c arg6)
    (E : Set ℕ) (Q : PUnit → sProp 𝕄) :
    iprop(pt c arg1 f1 ∗ pt c arg2 f2 ∗ pt c arg3 f3 ∗ pt c arg4 f4 ∗ pt c arg5 f5 ∗ pt c arg6 f6
        ∗ (∀ (g4 : Bf (F := F) c arg4) (g5 : Bf (F := F) c arg5) (g6 : Bf (F := F) c arg6),
            ⌜arg4.view.read (Elt F) g4 = k0_pay190 (F := F) (chosen (dist (arg1.view.read (Elt F) f1) (arg2.view.read (Elt F) f2)))⌝
            -∗ ⌜arg5.view.read (Elt F) g5 = k0_pay1 (F := F) (arg3.view.read (Elt F) f3)⌝
            -∗ pt c arg1 f1 -∗ pt c arg2 f2 -∗ pt c arg3 f3 -∗ pt c arg4 g4 -∗ pt c arg5 g5 -∗ pt c arg6 g6 -∗ Q ⟨⟩))
      ⊢ wp frame (wpE (defs₀ (F := F)) Variants.none (c : Thread nD τ) none) E
          (cc0__select_body (F := F) i arg1 harg1 arg2 harg2 arg3 harg3 arg4 harg4 arg5 harg5 arg6 harg6) Q := by
  rw [body_eq', ← settled_eq]
  iintro ⟨H1, H2, H3, H4, H5, H6, Hk⟩
  iapply (loads_run c arg1 arg2 _ f1 f2 E Q)
  isplitl [H1]; · iexact H1
  isplitl [H2]; · iexact H2
  iintro H1 H2
  generalize dist (F := F) _ _ = d
  generalize fastRows d = rows
  generalize flagged (headsAt d 15).fl = fl
  iapply (afterLoads_run c i arg1 harg1 arg2 harg2 arg3 harg3 arg4 harg4 arg5 harg5 arg6 harg6 d rows fl f3 f4 f5 f6 E _)
  isplitl [H3]; · iexact H3
  isplitl [H4]; · iexact H4
  isplitl [H5]; · iexact H5
  isplitl [H6]; · iexact H6
  iintro %g4 %g5 %g6 %h4 %h5 H3 H4 H5 H6
  iapply Hk $$ %g4 %g5 %g6 [] [] [H1] [H2] [H3] [H4] [H5] [H6]
  · ipureintro; exact h4
  · ipureintro; exact h5
  · iexact H1
  · iexact H2
  · iexact H3
  · iexact H4
  · iexact H5
  · iexact H6

end Cert.KernelIdeal.Select
-- ==== Proof.Region0.lean ====
module

public import proofs.«01_k».proof.Proof.SelectRun
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionsLoop

@[expose] public section

/-! # The first call over the buffers

What the first call leaves in the staging buffers of a grid point, as a function of the blocks it fetched, and the
call's step from the buffers at a valuation to the buffers with its two results in place. -/

set_option maxRecDepth 16384

noncomputable section

namespace Cert.KernelIdeal.Select

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole memref owned at a value is its buffer held at contents that read the value. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

variable (V : (c : Dev nD) → (b : Ref sig .tc) → Buf (Elt F) ((c : Thread nD τ).loc b))

/-- The block of a window's array that a point works on. -/
abbrev inBlk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scoped buffers the call does not stage. -/
abbrev Φ0 (c : Dev nD) : sProp 𝕄 := Pipeline.scopedRest (Ix := Unit) (Name := ℕ) (U := UR sig nD τ) (Lvl := ℕ) (Val := Elt F) spec0 c

/-- The counts a point leaves. -/
abbrev counts (c : Dev nD) (t : Fin cfg0.N) : FVec F S1x128x128 .f32 :=
  k0_pay190 (F := F) (chosen (dist (inBlk0 V c 0 t) (inBlk0 V c 1 t)))

/-- What the first call holds: the arrays at entry, and what each point leaves in its staging buffers. -/
def dat0 (c : Dev nD) : Dat τ (Elt F) Unit ℕ (UR sig nD τ) ℕ cfg0 c where
  A w := V c (Pipeline.arrRef spec0 w)
  after w t := match w with
    | ⟨0, _⟩ => inBlk0 V c 0 t
    | ⟨1, _⟩ => inBlk0 V c 1 t
    | ⟨2, _⟩ => inBlk0 V c 2 t
    | ⟨3, _⟩ => counts V c t
    | ⟨4, _⟩ => k0_pay1 (F := F) (inBlk0 V c 2 t)
  Φ _ := Φ0 c
  q _ := fullShare
  owed _ := 0

theorem before0_0 (c : Dev nD) (t : Fin cfg0.N) (d) : (dat0 V c).before 0 t d = inBlk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = inBlk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = inBlk0 V c 2 t :=
  ((dat0 V c).before_in_eq_fetched 2 rfl (fun _ => rfl) (fun _ _ _ => rfl) (fun _ => rfl) t d).trans rfl

theorem after0_3 (c : Dev nD) (t : Fin cfg0.N) : (dat0 V c).after 3 t = counts V c t := by dsimp only [dat0]
theorem after0_4 (c : Dev nD) (t : Fin cfg0.N) : (dat0 V c).after 4 t = k0_pay1 (F := F) (inBlk0 V c 2 t) := by dsimp only [dat0]

/-- The scratch buffer apart from the other scoped buffers. -/
theorem Φ0_split (c : Dev nD) : ∃ R : sProp 𝕄, (Φ0 (F := F) c) = iprop((∃ f : Bf (F := F) c (Memref.whole cc0_scratch0), pt c (Memref.whole cc0_scratch0) f) ∗ R) :=
  ⟨_, scopedRest0_eq c⟩

/-- One point, over memrefs owned at values: the two results hold what the fetched blocks determine. -/
theorem point_run (c : Dev nD) (i : grid0.Coords)
    (M1 : Memref sig .tc .vmem S8x128 .f32) (h1 : M1.IsWhole) (M2 : Memref sig .tc .vmem S16384x8 .f32) (h2 : M2.IsWhole)
    (M3 : Memref sig .tc .vmem S128x512 .f32) (h3 : M3.IsWhole) (M4 : Memref sig .tc .vmem S1x128x128 .f32) (h4 : M4.IsWhole)
    (M5 : Memref sig .tc .vmem S1x1x512 .f32) (h5 : M5.IsWhole) (M6 : Memref sig .tc .vmem S16x128 .i32) (h6 : M6.IsWhole)
    (X1 X2 X3 X4 X5) (f6 : Bf (F := F) c M6) (Q : PUnit → sProp 𝕄) :
    iprop(owns (c : Thread nD τ) M1 fullShare X1 ∗ owns (c : Thread nD τ) M2 fullShare X2 ∗ owns (c : Thread nD τ) M3 fullShare X3
      ∗ owns (c : Thread nD τ) M4 fullShare X4 ∗ owns (c : Thread nD τ) M5 fullShare X5 ∗ pt c M6 f6
      ∗ (∀ g6 : Bf (F := F) c M6, owns (c : Thread nD τ) M1 fullShare X1 -∗ owns (c : Thread nD τ) M2 fullShare X2 -∗ owns (c : Thread nD τ) M3 fullShare X3
        -∗ owns (c : Thread nD τ) M4 fullShare (k0_pay190 (F := F) (chosen (dist X1 X2))) -∗ owns (c : Thread nD τ) M5 fullShare (k0_pay1 (F := F) X3) -∗ pt c M6 g6 -∗ Q ⟨⟩))
      ⊢ wp frame (wpE (defs₀ (F := F)) Variants.none c none) Set.univ (cc0__select_body i M1 h1 M2 h2 M3 h3 M4 h4 M5 h5 M6 h6) Q := by
  rw [owns_pt c M1 h1, owns_pt c M2 h2, owns_pt c M3 h3, owns_pt c M4 h4, owns_pt c M5 h5, owns_pt c M4 h4, owns_pt c M5 h5]
  iintro ⟨⟨%f1, %hf1, H1⟩, ⟨%f2, %hf2, H2⟩, ⟨%f3, %hf3, H3⟩, ⟨%f4, -, H4⟩, ⟨%f5, -, H5⟩, H6, Hk⟩
  iapply (body_run c i M1 h1 M2 h2 M3 h3 M4 h4 M5 h5 M6 h6 f1 f2 f3 f4 f5 f6 Set.univ Q)
  isplitl [H1]; · iexact H1
  isplitl [H2]; · iexact H2
  isplitl [H3]; · iexact H3
  isplitl [H4]; · iexact H4
  isplitl [H5]; · iexact H5
  isplitl [H6]; · iexact H6
  iintro %g4 %g5 %g6 %e4 %e5 H1 H2 H3 H4 H5 H6
  rw [hf1, hf2] at e4
  rw [hf3] at e5
  iapply Hk $$ %g6 [H1] [H2] [H3] [H4] [H5] H6
  · iexists f1
    isplitr
    · ipureintro; exact hf1
    iexact H1
  · iexists f2
    isplitr
    · ipureintro; exact hf2
    iexact H2
  · iexists f3
    isplitr
    · ipureintro; exact hf3
    iexact H3
  · iexists g4
    isplitr
    · ipureintro; exact e4
    iexact H4
  · iexists g5
    isplitr
    · ipureintro; exact e5
    iexact H5

/-- The same, with the rest of the call's invariant carried across. -/
theorem point_triple (c : Dev nD) (i : grid0.Coords)
    (M1 : Memref sig .tc .vmem S8x128 .f32) (h1 : M1.IsWhole) (M2 : Memref sig .tc .vmem S16384x8 .f32) (h2 : M2.IsWhole)
    (M3 : Memref sig .tc .vmem S128x512 .f32) (h3 : M3.IsWhole) (M4 : Memref sig .tc .vmem S1x128x128 .f32) (h4 : M4.IsWhole)
    (M5 : Memref sig .tc .vmem S1x1x512 .f32) (h5 : M5.IsWhole) (M6 : Memref sig .tc .vmem S16x128 .i32) (h6 : M6.IsWhole)
    (R O : sProp 𝕄) (X1 X2 X3) :
    iprop(((∃ f6 : Bf (F := F) c M6, pt c M6 f6) ∗ R) ∗ O ∗ owns (c : Thread nD τ) M1 fullShare X1 ∗ owns (c : Thread nD τ) M2 fullShare X2
        ∗ owns (c : Thread nD τ) M3 fullShare X3 ∗ (∃ X4, owns (c : Thread nD τ) M4 fullShare X4) ∗ (∃ X5, owns (c : Thread nD τ) M5 fullShare X5))
      ⊢ wp frame (wpE (defs₀ (F := F)) Variants.none c none) Set.univ (cc0__select_body i M1 h1 M2 h2 M3 h3 M4 h4 M5 h5 M6 h6) fun _ =>
        iprop(((∃ f6 : Bf (F := F) c M6, pt c M6 f6) ∗ R) ∗ O ∗ owns (c : Thread nD τ) M1 fullShare X1 ∗ owns (c : Thread nD τ) M2 fullShare X2
        ∗ owns (c : Thread nD τ) M3 fullShare X3 ∗ owns (c : Thread nD τ) M4 fullShare (k0_pay190 (F := F) (chosen (dist X1 X2)))
        ∗ owns (c : Thread nD τ) M5 fullShare (k0_pay1 (F := F) X3)) := by
  iintro ⟨⟨⟨%f6, H6⟩, HR⟩, HO, H1, H2, H3, ⟨%X4, H4⟩, ⟨%X5, H5⟩⟩
  iapply (point_run c i M1 h1 M2 h2 M3 h3 M4 h4 M5 h5 M6 h6 X1 X2 X3 X4 X5 f6 _)
  isplitl [H1]; · iexact H1
  isplitl [H2]; · iexact H2
  isplitl [H3]; · iexact H3
  isplitl [H4]; · iexact H4
  isplitl [H5]; · iexact H5
  isplitl [H6]; · iexact H6
  iintro %g6 H1 H2 H3 H4 H5 H6
  isplitl [H6 HR]
  · isplitl [H6]
    · iexists g6
      iexact H6
    iexact HR
  isplitl [HO]; · iexact HO
  isplitl [H1]; · iexact H1
  isplitl [H2]; · iexact H2
  isplitl [H3]; · iexact H3
  isplitl [H4]; · iexact H4
  iexact H5

/-- The body table's row for the first call. -/
theorem row0 (t : Fin cfg0.N) : defs₀ (F := F) .tc cfg0.body (cfg0.bodyArgs t (cfg0.slots t)) = bodyAt0 t := by
  unfold defs₀
  rw [Defs.onTc_tc]

/-- Of any data that says of the windows what the body does to them, the body keeps it at every point. -/
theorem obligation_of (c : Dev nD) (D : Dat τ (Elt F) Unit ℕ (UR sig nD τ) ℕ cfg0 c) (R : sProp 𝕄)
    (hΦ : ∀ k, D.Φ k = iprop((∃ f : Bf (F := F) c (Memref.whole cc0_scratch0), pt c (Memref.whole cc0_scratch0) f) ∗ R))
    (hO : ∀ t : Fin cfg0.N, D.owesAt () t.succ = D.owesAt () t.castSucc)
    (h0 : ∀ t d, D.before 0 t d = D.after 0 t) (h1 : ∀ t d, D.before 1 t d = D.after 1 t) (h2 : ∀ t d, D.before 2 t d = D.after 2 t)
    (h3 : ∀ t, D.after 3 t = k0_pay190 (F := F) (chosen (dist (D.after 0 t) (D.after 1 t))))
    (h4 : ∀ t, D.after 4 t = k0_pay1 (F := F) (D.after 2 t)) :
    BodyObligation D (defs₀ (F := F)) Variants.none () Set.univ := by
  intro t
  rw [bigSep_W0, bigSep_W0, hΦ, hΦ, hO, row0]
  refine triple_restated (point_triple c (grid0.coords t) (win0_0.stage (cfg0.slots t 0)) (hstage0_0 _) (win0_1.stage (cfg0.slots t 1)) (hstage0_1 _) (win0_2.stage (cfg0.slots t 2)) (hstage0_2 _) (win0_3.stage (cfg0.slots t 3)) (hstage0_3 _) (win0_4.stage (cfg0.slots t 4)) (hstage0_4 _) (Memref.whole cc0_scratch0) (Memref.isWhole_whole _)
    R (D.owesAt () t.castSucc) (D.after 0 t) (D.after 1 t) (D.after 2 t)) rfl ?_ fun _ => ?_
  · iintro ⟨HΦ, Howes, ⟨%d0, H0⟩, ⟨%d1, H1⟩, ⟨%d2, H2⟩, ⟨%d3, H3⟩, ⟨%d4, H4⟩⟩
    rw [h0 t d0, h1 t d1, h2 t d2]
    isplitl [HΦ]; · iexact HΦ
    isplitl [Howes]; · iexact Howes
    isplitl [H0]; · iexact H0
    isplitl [H1]; · iexact H1
    isplitl [H2]; · iexact H2
    isplitl [H3]
    · iexists (D.before 3 t d3)
      iexact H3
    iexists (D.before 4 t d4)
    iexact H4
  · rw [h3 t, h4 t]

/-- At every point the body takes the staging buffers from what they hold before to what `dat0` says. -/
theorem body_obligation0 (c : Dev nD) : BodyObligation (dat0 V c) (defs₀ (F := F)) Variants.none () Set.univ := by
  obtain ⟨R, hR⟩ := Φ0_split (F := F) c
  exact obligation_of c (dat0 V c) R (fun _ => hR) (fun _ => rfl) (before0_0 V c) (before0_1 V c) (before0_2 V c) (after0_3 V c) (after0_4 V c)

end Cert.KernelIdeal.Select
-- ==== Proof.Region1.lean ====
module

public import proofs.«01_k».proof.Proof.Region0

@[expose] public section

/-! # The second call over the buffers

The second call sums, block by block, the features of 1024 proteins weighted by their counts; its result's staging
buffer carries the sum from one grid point to the next. -/

set_option maxRecDepth 16384

noncomputable section

namespace Cert.KernelIdeal.Select

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off1 : ∀ a : Fin 1, (![0] : Fin 1 → ℕ) a = 0 := by decide

/-- The first point's body: the block's weighted sum replaces what the buffer held. -/
theorem reduce_first (c : Dev nD) (i : grid1.Coords) (arg1 : Memref sig .tc .vmem S16x1024 .f32) (harg1 : arg1.IsWhole) (arg2 : Memref sig .tc .vmem S1024x512 .f32) (harg2 : arg2.IsWhole) (arg3 : Memref sig .tc .vmem S512 .f32) (harg3 : arg3.IsWhole)
    (hi : k1_cond1 i = 1#1) (hi' : ¬ k1_cond2 i = 1#1)
    (f1 : Bf (F := F) c arg1) (f2 : Bf (F := F) c arg2) (f3 : Bf (F := F) c arg3) (Q : PUnit → sProp 𝕄) :
    iprop(pt c arg1 f1 ∗ pt c arg2 f2 ∗ pt c arg3 f3
        ∗ (∀ g3 : Bf (F := F) c arg3, ⌜arg3.view.read (Elt F) g3 = k1_pay1 (F := F) (arg1.view.read (Elt F) f1) (arg2.view.read (Elt F) f2)⌝
            -∗ pt c arg1 f1 -∗ pt c arg2 f2 -∗ pt c arg3 g3 -∗ Q ⟨⟩))
      ⊢ wp frame (wpE (defs₀ (F := F)) Variants.none (c : Thread nD τ) none) Set.univ (cc1__reduce_body (F := F) i arg1 harg1 arg2 harg2 arg3 harg3) Q := by
  rw [cc1__reduce_body_eq_skeleton]
  unfold cc1__reduce_body_skel
  iintro ⟨H1, H2, H3, Hk⟩
  sl_exec
  sl_step
  iapply Hk $$ %_ [] [H1] [H2] [H3]
  rotate_left 1
  · iexact H1
  · iexact H2
  · iexact H3
  · ipureintro
    refine (read_whole arg3.view f3 inb_S512_S512_0 _ off1).trans ?_
    rw [View.readAt_full arg1.view f1 inb_S16x1024_S16x1024_0_0, View.readAt_full arg2.view f2 inb_S1024x512_S1024x512_0_0]

/-- Every later point's body: the block's weighted sum is added to what the buffer held. -/
theorem reduce_next (c : Dev nD) (i : grid1.Coords) (arg1 : Memref sig .tc .vmem S16x1024 .f32) (harg1 : arg1.IsWhole) (arg2 : Memref sig .tc .vmem S1024x512 .f32) (harg2 : arg2.IsWhole) (arg3 : Memref sig .tc .vmem S512 .f32) (harg3 : arg3.IsWhole)
    (hi : ¬ k1_cond1 i = 1#1) (hi' : k1_cond2 i = 1#1)
    (f1 : Bf (F := F) c arg1) (f2 : Bf (F := F) c arg2) (f3 : Bf (F := F) c arg3) (Q : PUnit → sProp 𝕄) :
    iprop(pt c arg1 f1 ∗ pt c arg2 f2 ∗ pt c arg3 f3
        ∗ (∀ g3 : Bf (F := F) c arg3, ⌜arg3.view.read (Elt F) g3 = k1_pay2 (F := F) (arg1.view.read (Elt F) f1) (arg2.view.read (Elt F) f2) (arg3.view.read (Elt F) f3)⌝
            -∗ pt c arg1 f1 -∗ pt c arg2 f2 -∗ pt c arg3 g3 -∗ Q ⟨⟩))
      ⊢ wp frame (wpE (defs₀ (F := F)) Variants.none (c : Thread nD τ) none) Set.univ (cc1__reduce_body (F := F) i arg1 harg1 arg2 harg2 arg3 harg3) Q := by
  rw [cc1__reduce_body_eq_skeleton]
  unfold cc1__reduce_body_skel
  iintro ⟨H1, H2, H3, Hk⟩
  sl_exec
  sl_step
  iapply Hk $$ %_ [] [H1] [H2] [H3]
  rotate_left 1
  · iexact H1
  · iexact H2
  · iexact H3
  · ipureintro
    refine (read_whole arg3.view f3 inb_S512_S512_0 _ off1).trans ?_
    rw [View.readAt_full arg1.view f1 inb_S16x1024_S16x1024_0_0, View.readAt_full arg2.view f2 inb_S1024x512_S1024x512_0_0, View.readAt_full arg3.view f3 inb_S512_S512_0]

/-- What a point makes of the buffer: a fresh sum at the first point, the sum carried on at the others. -/
def stepped (i : grid1.Coords) (X1 : Vec F S16x1024 .f32) (X2 : Vec F S1024x512 .f32) (X3 : Vec F S512 .f32) : Vec F S512 .f32 :=
  if k1_cond1 i = 1#1 then k1_pay1 X1 X2 else k1_pay2 X1 X2 X3

/-- One point, over memrefs owned at values, the rest of the call's invariant carried across. -/
theorem reduce_triple (c : Dev nD) (i : grid1.Coords) (M1 : Memref sig .tc .vmem S16x1024 .f32) (h1 : M1.IsWhole) (M2 : Memref sig .tc .vmem S1024x512 .f32) (h2 : M2.IsWhole) (M3 : Memref sig .tc .vmem S512 .f32) (h3 : M3.IsWhole)
    (hi : k1_cond2 i = 1#1 ↔ ¬ k1_cond1 i = 1#1) (R O : sProp 𝕄) (X1 X2) (X3 : Vec F S512 .f32 → Vec F S512 .f32) (Y)
    (hY : ∀ d, stepped i X1 X2 (X3 d) = Y) :
    iprop(R ∗ O ∗ owns (c : Thread nD τ) M1 fullShare X1 ∗ owns (c : Thread nD τ) M2 fullShare X2 ∗ (∃ d, owns (c : Thread nD τ) M3 fullShare (X3 d)))
      ⊢ wp frame (wpE (defs₀ (F := F)) Variants.none c none) Set.univ (cc1__reduce_body (F := F) i M1 h1 M2 h2 M3 h3) fun _ =>
        iprop(R ∗ O ∗ owns (c : Thread nD τ) M1 fullShare X1 ∗ owns (c : Thread nD τ) M2 fullShare X2 ∗ owns (c : Thread nD τ) M3 fullShare Y) := by
  simp only [owns_pt c M1 h1, owns_pt c M2 h2, owns_pt c M3 h3]
  iintro ⟨HR, HO, ⟨%f1, %hf1, H1⟩, ⟨%f2, %hf2, H2⟩, ⟨%d, %f3, %hf3, H3⟩⟩
  have hy : Y = stepped i (M1.view.read (Elt F) f1) (M2.view.read (Elt F) f2) (M3.view.read (Elt F) f3) := by
    rw [hf1, hf2, hf3]; exact (hY d).symm
  by_cases hc : k1_cond1 i = 1#1
  · rw [stepped, if_pos hc] at hy
    iapply (reduce_first c i M1 h1 M2 h2 M3 h3 hc (fun h => (hi.mp h) hc) f1 f2 f3 _)
    isplitl [H1]; · iexact H1
    isplitl [H2]; · iexact H2
    isplitl [H3]; · iexact H3
    iintro %g3 %e3 H1 H2 H3
    isplitl [HR]; · iexact HR
    isplitl [HO]; · iexact HO
    isplitl [H1]
    · iexists f1
      isplitr
      · ipureintro; exact hf1
      iexact H1
    isplitl [H2]
    · iexists f2
      isplitr
      · ipureintro; exact hf2
      iexact H2
    iexists g3
    isplitr
    · ipureintro; exact e3.trans hy.symm
    iexact H3
  · rw [stepped, if_neg hc] at hy
    iapply (reduce_next c i M1 h1 M2 h2 M3 h3 hc (hi.mpr hc) f1 f2 f3 _)
    isplitl [H1]; · iexact H1
    isplitl [H2]; · iexact H2
    isplitl [H3]; · iexact H3
    iintro %g3 %e3 H1 H2 H3
    isplitl [HR]; · iexact HR
    isplitl [HO]; · iexact HO
    isplitl [H1]
    · iexists f1
      isplitr
      · ipureintro; exact hf1
      iexact H1
    isplitl [H2]
    · iexists f2
      isplitr
      · ipureintro; exact hf2
      iexact H2
    iexists g3
    isplitr
    · ipureintro; exact e3.trans hy.symm
    iexact H3

variable (V : (c : Dev nD) → (b : Ref sig .tc) → Buf (Elt F) ((c : Thread nD τ).loc b))

/-- The block of a window's array that a point works on. -/
abbrev inBlk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The sum the result's buffer holds after a point. -/
def acc (c : Dev nD) : (n : ℕ) → n < cfg1.N → FVec F S512 .f32
  | 0, h => k1_pay1 (F := F) (inBlk1 V c 0 ⟨0, h⟩) (inBlk1 V c 1 ⟨0, h⟩)
  | n + 1, h => k1_pay2 (F := F) (inBlk1 V c 0 ⟨n + 1, h⟩) (inBlk1 V c 1 ⟨n + 1, h⟩) (acc c n (Nat.lt_of_succ_lt h))

/-- The scoped buffers the call does not stage. -/
abbrev Φ1 (c : Dev nD) : sProp 𝕄 := Pipeline.scopedRest (Ix := Unit) (Name := ℕ) (U := UR sig nD τ) (Lvl := ℕ) (Val := Elt F) spec1 c

/-- What the second call holds: the arrays at entry, and what each point leaves in its staging buffers. -/
def dat1 (c : Dev nD) : Dat τ (Elt F) Unit ℕ (UR sig nD τ) ℕ cfg1 c where
  A w := V c (Pipeline.arrRef spec1 w)
  after w t := match w with
    | ⟨0, _⟩ => inBlk1 V c 0 t
    | ⟨1, _⟩ => inBlk1 V c 1 t
    | ⟨2, _⟩ => acc V c t.val t.isLt
  Φ _ := Φ1 c
  q _ := fullShare
  owed _ := 0

/-- The first point starts the sum; every other point carries it on. -/
theorem points1 : ∀ t : Fin cfg1.N, (t.val = 0 ∧ k1_cond1 (grid1.coords t) = 1#1 ∧ ¬ k1_cond2 (grid1.coords t) = 1#1)
    ∨ (t.val ≠ 0 ∧ ¬ k1_cond1 (grid1.coords t) = 1#1 ∧ k1_cond2 (grid1.coords t) = 1#1) := by decide +kernel

theorem starts1 (t : Fin cfg1.N) : k1_cond2 (grid1.coords t) = 1#1 ↔ ¬ k1_cond1 (grid1.coords t) = 1#1 := by
  rcases points1 t with ⟨-, h, h'⟩ | ⟨-, h, h'⟩
  · exact ⟨fun x => absurd x h', fun x => absurd h x⟩
  · exact ⟨fun _ => h, fun _ => h'⟩

theorem live1 : ∀ (w : Fin cfg1.W) (t : Fin cfg1.N), cfg1.idle w (cfg1.grid.coords t) = false := by decide +kernel

theorem live1_2 : ∀ i : grid1.Coords, cfg1.idle 2 i = false := by
  intro i
  have h : ∀ n : Fin 16, (!((Scalar.cmpi .ne (Scalar.extui (Scalar.cmpi .eq (BitVec.ofNat 32 n.val) 0#32) : BitVec 32) 0#32) == 1#1)
    && !((Scalar.cmpi .ne (Scalar.extui (Scalar.cmpi .ne (BitVec.ofNat 32 n.val) 0#32) : BitVec 32) 0#32) == 1#1)) = false := by decide +kernel
  exact h (i 0)

theorem before1_0 (c : Dev nD) (t : Fin cfg1.N) (d) : (dat1 V c).before 0 t d = inBlk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = inBlk1 V c 1 t :=
  ((dat1 V c).before_in_eq_fetched 1 rfl (fun _ => rfl) (fun _ _ _ => rfl) (fun _ => rfl) t d).trans rfl

/-- The sum after a point, from what its buffer held before. -/
theorem acc_step (c : Dev nD) (t : Fin cfg1.N) (d) :
    stepped (grid1.coords t) (inBlk1 V c 0 t) (inBlk1 V c 1 t) ((dat1 V c).before 2 t d) = acc V c t.val t.isLt := by
  rcases points1 t with ⟨h0, h, -⟩ | ⟨h0, h, -⟩
  · rw [stepped, if_pos h]
    obtain ⟨n, hn⟩ := t
    obtain rfl : n = 0 := h0
    rfl
  · rw [stepped, if_neg h, (dat1 V c).before_out_kept 2 rfl t h0 (by
      rw [← Bool.not_eq_true, flush1_2]
      have := t.isLt
      have e : cfg1.N = 16 := N_1
      simp only
      omega) live1_2 (fun _ _ => rfl) d]
    obtain ⟨n, hn⟩ := t
    cases n with
    | zero => exact absurd rfl h0
    | succ n => rfl

/-- The body table's row for the second call. -/
theorem row1 (t : Fin cfg1.N) : defs₀ (F := F) .tc cfg1.body (cfg1.bodyArgs t (cfg1.slots t)) = bodyAt1 t := by
  unfold defs₀
  rw [Defs.onTc_tc]

/-- Of any data that says of the windows what the body does to them, the body keeps it at every point. -/
theorem obligation1_of (c : Dev nD) (D : Dat τ (Elt F) Unit ℕ (UR sig nD τ) ℕ cfg1 c) (R : sProp 𝕄) (hΦ : ∀ k, D.Φ k = R)
    (hO : ∀ t : Fin cfg1.N, D.owesAt () t.succ = D.owesAt () t.castSucc)
    (h0 : ∀ t d, D.before 0 t d = D.after 0 t) (h1 : ∀ t d, D.before 1 t d = D.after 1 t)
    (h2 : ∀ t d, stepped (F := F) (grid1.coords t) (D.after 0 t) (D.after 1 t) (D.before 2 t d) = D.after 2 t) :
    BodyObligation D (defs₀ (F := F)) Variants.none () Set.univ := by
  intro t
  rw [bigSep_W1, bigSep_W1, hΦ, hΦ, hO, row1]
  rw [live1 2 t]
  refine triple_restated (reduce_triple c (grid1.coords t) (win1_0.stage (cfg1.slots t 0)) (hstage1_0 _) (win1_1.stage (cfg1.slots t 1)) (hstage1_1 _) (win1_2.stage (cfg1.slots t 2)) (hstage1_2 _)
    (starts1 t) R (D.owesAt () t.castSucc) (D.after 0 t) (D.after 1 t) (fun d => D.before 2 t d) (D.after 2 t) (h2 t)) rfl ?_ fun _ => .rfl
  iintro ⟨HΦ, Howes, ⟨%d0, H0⟩, ⟨%d1, H1⟩, ⟨%d2, H2⟩⟩
  rw [h0 t d0, h1 t d1]
  isplitl [HΦ]; · iexact HΦ
  isplitl [Howes]; · iexact Howes
  isplitl [H0]; · iexact H0
  isplitl [H1]; · iexact H1
  iexists d2
  iexact H2

/-- At every point the body takes the staging buffers from what they hold before to what `dat1` says. -/
theorem body_obligation1 (c : Dev nD) : BodyObligation (dat1 V c) (defs₀ (F := F)) Variants.none () Set.univ :=
  obligation1_of c (dat1 V c) (Φ1 c) (fun _ => rfl) (fun _ => rfl) (before1_0 V c) (before1_1 V c) (acc_step V c)

end Cert.KernelIdeal.Select
-- ==== Proof.Run.lean ====
module

public import proofs.«01_k».proof.Proof.Region1

@[expose] public section

/-! # The whole program, run

The two calls as steps over the program's buffers, and the run of @main from them: it terminates, leaves the arguments
as they were, and leaves in its result what the last host operations make of the two calls' results. -/

set_option maxRecDepth 16384

noncomputable section

namespace Cert.KernelIdeal.Select

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents of every buffer of the TensorCore, on every device. -/
abbrev Vals (F : FTy → Type) [FloatOps F] : Type := (c : Dev nD) → (b : Ref sig .tc) → Buf (Elt F) ((c : Thread nD τ).loc b)

/-- No core owes another anything: no level is assigned. -/
abbrev L : GSem nD τ sig → Finset Unit := fun _ => ∅
abbrev lv : GSem nD τ sig → Unit → ℕ := fun _ _ => 0

variable (V W : Vals F)

/-- The two calls' data, from the buffers each is entered with. -/
def dats : (p : Fin 2) → (c : Dev nD) → Dat τ (Elt F) Unit ℕ (UR sig nD τ) ℕ (cfgs p) c
  | ⟨0, _⟩ => dat0 V
  | ⟨1, _⟩ => dat1 W

variable (V' : Vals F)

set_option backward.isDefEq.respectTransparency.types false in
/-- The first call over the buffers: entered at `V`, left at any `V'` that has the two results' arrays as the points wrote
    them and everything else as it was. -/
def call0 (h3 : ∀ c, V' c main_call0_v3_0 = (dat0 V c).arrAt 3 cfg0.N) (h4 : ∀ c, V' c main_call0_v3_1 = (dat0 V c).arrAt 4 cfg0.N)
    (hne : ∀ c (b : Ref sig .tc), b ≠ main_call0_v3_0 → b ≠ main_call0_v3_1 → V' c b = V c b) :
    Pipeline.RegionSeg (pcfgs (F := F)) adm (dats V W) () defs₀ Variants.none L lv 0 where
  win := (launch0).win.to₀
  block_pos := (launch0).block_pos
  stage_whole := (launch0).stage_whole
  K := PEmpty
  osem k := k.elim
  ho := Pipeline.OwnSemFacts.none _
  hbody c := (body_obligation0 V c).loose
  hwaits := Pipeline.hwaits_of_owed_zero _ _ _ _ L lv 0 fun _ _ => rfl
  pre c := iprop(unscopedBufs c (V c) ∗ ∃ S, owes (c : Thread nD τ) (0 : CellTallies nD τ sig Unit) S)
  post c := iprop(unscopedBufs c (V' c) ∗ ∃ S, owes (c : Thread nD τ) (0 : CellTallies nD τ sig Unit) S)
  X _ := BI.emp
  Y _ := BI.emp
  Z c := Pipeline.unscopedRest (Ix := Unit) (Name := ℕ) (U := UR sig nD τ) (Lvl := ℕ) spec0 c (V c)
  hentry c := by
    rw [Pipeline.ownSems0_none]
    have hsplit := Pipeline.arrays_of_unscopedBufs (p := 0) (pcfgs (F := F)) adm (dats V W) (launch0).win (launch0).arr_whole c
      ((dats V W 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%S, HO⟩
      iexists S
      isplitr
      · ipureintro; exact fun _ _ => Or.inl trivial
      iexact HO
    isplitr; · iempintro
    iexact Hrest
  hin c := by
    rw [show (dats V W 0 c).Φ 0 = Φ0 c from rfl]
    iintro ⟨-, -, Hr⟩
    iexact Hr
  hout c := by
    rw [Pipeline.ownSems0_none, show (dats V W 0 c).Φ (Fin.last _) = Φ0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) (launch0).win (launch0).arr_whole c
      (dats V W) ((dats V W 0 c).share_full fun _ => rfl) (V c) (V' c) ((dats V W 0 c).arrAt · cfg0.N)
      (fun w => by
        fin_cases w
        · exact ((dats V W 0 c).arrAt_in 0 rfl _).trans (hne c _ (by decide) (by decide)).symm
        · exact ((dats V W 0 c).arrAt_in 1 rfl _).trans (hne c _ (by decide) (by decide)).symm
        · exact ((dats V W 0 c).arrAt_in 2 rfl _).trans (hne c _ (by decide) (by decide)).symm
        · exact (h3 c).symm
        · exact (h4 c).symm)
      (fun b hb => hne c b (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin
      isplitl [Ha] <;> iassumption
    unfold Pipeline.Dat.owesAt Pipeline.owesWithin
    icases HO with ⟨%S, -, HO⟩
    iexists S
    iexact HO

set_option backward.isDefEq.respectTransparency.types false in
/-- The second call over the buffers: entered at `W`, left at any `V'` that has its result's array as the last point
    wrote it and everything else as it was. -/
def call1 (h2 : ∀ c, V' c main_call0_v7 = (dat1 W c).arrAt 2 cfg1.N) (hne : ∀ c (b : Ref sig .tc), b ≠ main_call0_v7 → V' c b = W c b) :
    Pipeline.RegionSeg (pcfgs (F := F)) adm (dats V W) () defs₀ Variants.none L lv 1 where
  win := (launch1).win.to₀
  block_pos := (launch1).block_pos
  stage_whole := (launch1).stage_whole
  K := PEmpty
  osem k := k.elim
  ho := Pipeline.OwnSemFacts.none _
  hbody c := (body_obligation1 W c).loose
  hwaits := Pipeline.hwaits_of_owed_zero _ _ _ _ L lv 1 fun _ _ => rfl
  pre c := iprop(unscopedBufs c (W c) ∗ ∃ S, owes (c : Thread nD τ) (0 : CellTallies nD τ sig Unit) S)
  post c := iprop(unscopedBufs c (V' c) ∗ ∃ S, owes (c : Thread nD τ) (0 : CellTallies nD τ sig Unit) S)
  X _ := BI.emp
  Y _ := BI.emp
  Z c := Pipeline.unscopedRest (Ix := Unit) (Name := ℕ) (U := UR sig nD τ) (Lvl := ℕ) spec1 c (W c)
  hentry c := by
    rw [Pipeline.ownSems0_none]
    have hsplit := Pipeline.arrays_of_unscopedBufs (p := 1) (pcfgs (F := F)) adm (dats V W) (launch1).win (launch1).arr_whole c
      ((dats V W 1 c).share_full fun _ => rfl) (W c) fun _ => rfl
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%S, HO⟩
      iexists S
      isplitr
      · ipureintro; exact fun _ _ => Or.inl trivial
      iexact HO
    isplitr; · iempintro
    iexact Hrest
  hin c := by
    rw [show (dats V W 1 c).Φ 0 = Φ1 c from rfl]
    iintro ⟨-, -, Hr⟩
    iexact Hr
  hout c := by
    rw [Pipeline.ownSems0_none, show (dats V W 1 c).Φ (Fin.last _) = Φ1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) (launch1).win (launch1).arr_whole c
      (dats V W) ((dats V W 1 c).share_full fun _ => rfl) (W c) (V' c) ((dats V W 1 c).arrAt · cfg1.N)
      (fun w => by
        fin_cases w
        · exact ((dats V W 1 c).arrAt_in 0 rfl _).trans (hne c _ (by decide)).symm
        · exact ((dats V W 1 c).arrAt_in 1 rfl _).trans (hne c _ (by decide)).symm
        · exact (h2 c).symm)
      (fun b hb => hne c b (fun h => hb (h ▸ Finset.mem_image.mpr ⟨2, Finset.mem_univ _, rfl⟩)))
    iintro ⟨Ha, HO, -, Hrest⟩
    imodintro
    isplitl [Ha Hrest]
    · iapply hjoin
      isplitl [Ha] <;> iassumption
    unfold Pipeline.Dat.owesAt Pipeline.owesWithin
    icases HO with ⟨%S, -, HO⟩
    iexists S
    iexact HO

/-! ## What the calls leave -/

section
variable (m : (ℓ : Loc nD τ sig) → Buf (Elt F) ℓ)

/-- The buffers as the first call finds them. -/
abbrev entry0 : Vals F := fun c b => V1 m c b

/-- The first call's results in place of what the buffers held. -/
def outs0 : Outs (F := F) := fun _ r c =>
  Function.update (Function.update (fun b : Ref sig .tc => m ((c : Thread nD τ).loc b)) main_call0_v3_0 ((dat0 (entry0 m) c).arrAt 3 cfg0.N))
    main_call0_v3_1 ((dat0 (entry0 m) c).arrAt 4 cfg0.N) r

/-- The buffers as the second call finds them. -/
abbrev entry1 : Vals F := fun c b => V3 m (outs0 m) c b

/-- Both calls' results. -/
def outs : Outs (F := F) := fun n r c => Function.update (fun b : Ref sig .tc => outs0 m n b c) main_call0_v7 ((dat1 (entry1 m) c).arrAt 2 cfg1.N) r

theorem outs0_counts (c : Dev nD) : outs0 m 2 main_call0_v3_0 c = (dat0 (entry0 m) c).arrAt 3 cfg0.N := by
  unfold outs0
  rw [Function.update_of_ne (by decide), Function.update_self]
theorem outs0_sums (c : Dev nD) : outs0 m 2 main_call0_v3_1 c = (dat0 (entry0 m) c).arrAt 4 cfg0.N := by
  unfold outs0
  rw [Function.update_self]
theorem outs_counts (c : Dev nD) : outs m 2 main_call0_v3_0 c = outs0 m 2 main_call0_v3_0 c := by
  unfold outs
  rw [Function.update_of_ne (by decide)]
theorem outs_sums (c : Dev nD) : outs m 2 main_call0_v3_1 c = outs0 m 2 main_call0_v3_1 c := by
  unfold outs
  rw [Function.update_of_ne (by decide)]
theorem outs_total (c : Dev nD) : outs m 4 main_call0_v7 c = (dat1 (entry1 m) c).arrAt 2 cfg1.N := by
  unfold outs
  rw [Function.update_self]

/-- The second call's result does not reach back to the buffers it is entered with. -/
theorem V2_outs (c : Dev nD) : V2 m (outs m) c = V2 m (outs0 m) c := by
  unfold V2
  rw [outs_counts, outs_sums]
theorem V3_outs (c : Dev nD) : V3 m (outs m) c = V3 m (outs0 m) c := by
  unfold V3
  rw [V2_outs]

end

/-! ## The run -/

section
variable (m : (ℓ : Loc nD τ sig) → Buf (Elt F) ℓ)

/-- The first call, from the launch memory. -/
def step0 : Pipeline.RegionSeg (pcfgs (F := F)) adm (dats (entry0 m) (entry1 m)) () defs₀ Variants.none L lv 0 :=
  call0 (entry0 m) (entry1 m) (fun c b => V2 m (outs m) c b)
    (fun c => by
      show V2 m (outs m) c _ = _
      unfold V2
      rw [Function.update_of_ne (by decide), Function.update_self, outs_counts, outs0_counts])
    (fun c => by
      show V2 m (outs m) c _ = _
      unfold V2
      rw [Function.update_self, outs_sums, outs0_sums])
    (fun c b h3 h4 => by
      show V2 m (outs m) c _ = _
      unfold V2
      rw [Function.update_of_ne (fun h => h4 (Proc.devRef_injective _ h)), Function.update_of_ne (fun h => h3 (Proc.devRef_injective _ h))])

/-- The second call, from what the host operations between the calls leave. -/
def step1 : Pipeline.RegionSeg (pcfgs (F := F)) adm (dats (entry0 m) (entry1 m)) () defs₀ Variants.none L lv 1 :=
  call1 (entry0 m) (entry1 m) (fun c b => V4 m (outs m) c b)
    (fun c => by
      show V4 m (outs m) c _ = _
      unfold V4
      rw [Function.update_self, outs_total])
    (fun c b h => by
      show V4 m (outs m) c _ = V3 m (outs0 m) c _
      unfold V4
      rw [Function.update_of_ne (fun h' => h (Proc.devRef_injective _ h')), V3_outs])

/-- Nothing but the absence of debts goes along from one step to the next. -/
abbrev rest (_ : Fin 3) (c : Dev nD) : sProp 𝕄 := iprop(∃ S, owes (c : Thread nD τ) (0 : CellTallies nD τ sig Unit) S)

/-- The launch's own elements: the tokens of both calls' semaphores. -/
abbrev tokens : UR sig nD τ := initOf (Pipeline.cells cfgs cellOf_inj) (Pipeline.launchToks cfgs cellOf_inj)

/-- The tokens, given where the calls look for them. -/
theorem tokens_held : (ownU tokens : sProp 𝕄)
    ⊢ |={Set.univ}=> iprop(BI.own (emb₁ (tokens : UR sig nD τ) : 𝕄) ∗ bigSep Finset.univ (fun _ : Dev nD => (BI.emp : sProp 𝕄))) := by
  rw [BI.bigSep_emp_const, show (ownU tokens : sProp 𝕄) = BI.own (emb₁ (tokens : UR sig nD τ) : 𝕄) from ownU_emb₁ _]
  iintro H
  imodintro
  isplitl
  · iexact H
  iempintro

/-- What a core starts with covers what goes along: it owes nothing. -/
theorem rest_at_launch (ρ : Dev nD → PrngReg) :
    iprop((bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ (BI.emp : sProp 𝕄))) ∗ levAts L lv)
      ⊢ (|={Set.univ}=> bigSep Finset.univ (rest 0) : sProp 𝕄) := by
  have one (c : Dev nD) : (iprop(unscopedSems0 c ∗ owes (c : Thread nD τ) (0 : CellTallies nD τ sig Unit) ∅
      ∗ Pipeline.launchCred (fun _ => (0 : CellTallies nD τ sig Unit)) c ∗ prngReg c (ρ c) ∗ (BI.emp : sProp 𝕄)) : sProp 𝕄) ⊢ rest 0 c := by
    show (_ : sProp 𝕄) ⊢ iprop(∃ S, owes (c : Thread nD τ) (0 : CellTallies nD τ sig Unit) S)
    iintro ⟨-, HO, -⟩
    iexists ∅
    iexact HO
  have each : (bigSep Finset.univ fun c : Dev nD => iprop(unscopedSems0 c ∗ owes (c : Thread nD τ) (0 : CellTallies nD τ sig Unit) ∅
      ∗ Pipeline.launchCred (fun _ => (0 : CellTallies nD τ sig Unit)) c ∗ prngReg c (ρ c) ∗ (BI.emp : sProp 𝕄)))
        ⊢ (bigSep Finset.univ (rest 0) : sProp 𝕄) := bigSep_mono fun c _ => one c
  iintro ⟨H, -⟩
  imodintro
  iapply each
  iexact H

/-- A core's buffers and its resting debts, as a call holds them and as the host operations do. -/
theorem held_of (V : Vals F) (c : Dev nD) (X : Valuation τ sig (Elt F)) (h : ∀ b, V c b = X b) (n : Fin 3) :
    iprop(StableHlo.held (c : Thread nD τ) (Pipeline.ucRefs τ sig) X ∗ rest n c)
      ⊣⊢ (iprop(unscopedBufs c (V c) ∗ ∃ S, owes (c : Thread nD τ) (0 : CellTallies nD τ sig Unit) S) : sProp 𝕄) := by
  rw [← Pipeline.unscopedBufs_held (Ix := Unit) (Name := ℕ) (U := UR sig nD τ) (Lvl := ℕ) c X, show V c = fun b : Ref sig .tc => X b from funext h]

set_option backward.isDefEq.respectTransparency.types false in
/-- The run of the program: every core terminates, its arguments as they were, its result what the last host operations
    make of the two calls' results. -/
theorem run (ρ : Dev nD → PrngReg) :
    θ_run defs (onTc (τ := τ) (main (F := F))) ⟨m, fun _ => 0, ρ⟩ (fun r => (∀ c : Dev nD,
      r.2.mem ((c.tc : Thread nD τ).loc main_v0) = V5 m (outs m) c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine Pipeline.θ_run_regions_kit_dev_sems (pcfgs (F := F)) adm (dats (entry0 m) (entry1 m)) () cellOf_inj emb₁ defs₀ Variants.none L lv m ρ main
    (segs m (outs m) Variants.none L lv rest () (dats (entry0 m) (entry1 m)) (step0 m) (step1 m))
    (fun c Q => by
      rewrite [main_chain c, Pipeline.Seg.run_eq_chain, show (segs m (outs m) Variants.none L lv rest () (dats (entry0 m) (entry1 m)) (step0 m) (step1 m) c).map Pipeline.Seg.prog = [StableHlo.seq hostOps0, Prog.lift (.customCall (Pipeline.entry 0) ()), StableHlo.seq hostOps1, Prog.lift (.customCall (Pipeline.entry 1) ()), StableHlo.seq hostOps2] from rfl]
      dsimp (config := { failIfUnchanged := false }) only
      exact .rfl)
    (fun c => by simp only [segs, Pipeline.Seg.pipes_host, Pipeline.Seg.pipes_region, Pipeline.Seg.pipes_nil]; decide) 0 (fun _ _ => rfl) (fun _ => BI.emp) tokens tokens_held
    (T₀ := fun c => iprop(StableHlo.held (c : Thread nD τ) (Pipeline.ucRefs τ sig) (V0 m c) ∗ rest 0 c))
    (Tₙ := fun c => StableHlo.held (c : Thread nD τ) (Pipeline.ucRefs τ sig) (V5 m (outs m) c))
    (hch := fun c => ⟨.rfl, (held_of (entry0 m) c _ (fun _ => rfl) 0).1, (held_of (fun c b => V2 m (outs m) c b) c _ (fun _ => rfl) 1).2,
      (held_of (entry1 m) c _ (fun b => congrFun (V3_outs m c).symm _) 1).1,
      (held_of (fun c b => V4 m (outs m) c b) c _ (fun _ => rfl) 2).2, .rfl⟩)
    (hinit := ?_)
    (QY := fun c s => s.mem ((c.tc : Thread nD τ).loc main_v0) = V5 m (outs m) c main_v0
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h hz => ⟨h, funext fun g => hz g (.inr (regions_no_unscoped g.2))⟩)
  · have split : (bigSep Finset.univ fun c : Dev nD => iprop(unscopedBufs c (fun b => m ((c : Thread nD τ).loc b)) ∗ unscopedSems0 c ∗ owes (c : Thread nD τ) (0 : CellTallies nD τ sig Unit) ∅
        ∗ Pipeline.launchCred (fun _ => (0 : CellTallies nD τ sig Unit)) c ∗ prngReg c (ρ c) ∗ (BI.emp : sProp 𝕄)))
        ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ (BI.emp : sProp 𝕄))) : sProp 𝕄) := by
      rw [← bigSep_sep']
      exact bigSep_mono fun c _ => by
        rw [← Pipeline.unscopedBufs_held (Ix := Unit) (Name := ℕ) (U := UR sig nD τ) (Lvl := ℕ) c (V0 m c)]
        exact BI.Entails.refl _
    iintro ⟨H, Hl⟩
    ihave H := split $$ H
    icases H with ⟨Hh, Hr⟩
    imod rest_at_launch ρ $$ [Hr Hl] with HE
    · isplitl [Hr] <;> iassumption
    imodintro
    rw [bigSep_sep']
    isplitl [Hh] <;> iassumption
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      have at_ (r : Ref sig .tc) (hr : (Proc.devRef (τ := τ) .tc r) ∈ Pipeline.ucRefs τ sig) :
          s'.mem.mem ((c.tc : Thread nD τ).loc r) = V5 m (outs m) c r := h _ hr
      exact ⟨at_ main_v0 (Finset.mem_filter.mpr ⟨StableHlo.devRef_mem_tcRefs main_v0, by decide⟩),
        (at_ main_arg0 (Finset.mem_filter.mpr ⟨StableHlo.devRef_mem_tcRefs main_arg0, by decide⟩)).trans (V5_main_arg0 m (outs m) c),
        (at_ main_arg1 (Finset.mem_filter.mpr ⟨StableHlo.devRef_mem_tcRefs main_arg1, by decide⟩)).trans (V5_main_arg1 m (outs m) c),
        (at_ main_arg2 (Finset.mem_filter.mpr ⟨StableHlo.devRef_mem_tcRefs main_arg2, by decide⟩)).trans (V5_main_arg2 m (outs m) c),
        (at_ main_arg3 (Finset.mem_filter.mpr ⟨StableHlo.devRef_mem_tcRefs main_arg3, by decide⟩)).trans (V5_main_arg3 m (outs m) c)⟩
    · iexact HSI
end

end Cert.KernelIdeal.Select
-- ==== Proof.Held.lean ====
module

public import proofs.«01_k».proof.Proof.Run
public import Idealize.ShloMosaic.Lib.Claim
public import Idealize.ShloMosaic.Lib.Pointwise
public import Idealize.ShloMosaic.Lib.Pipeline.ValueKit

@[expose] public section

/-! # What the buffers hold between the calls -/

set_option maxRecDepth 16384

noncomputable section

namespace Cert.KernelIdeal.Select

open Cert.KernelIdeal Cert.KernelIdeal.Gen
open Idealize.ShloMosaic Idealize.ShloMosaic.TcCoe

/-! ## The host operations over arrays -/

/-- Protein positions with five columns of zeros. -/
def padX (X : FVec Ideal S16384x3 .f32) : FVec Ideal S16384x8 .f32 :=
  pad S16384x8 ![0, 0] ![0, 5] ![0, 0] X (sitofp (F := Ideal) .f32 (constantI S_ 32 0#32)) pads_S16384x3_S16384x8_000_050 h_S_

/-- Ligand positions with five columns of zeros, turned on their side. -/
def padY (Y : FVec Ideal S2048x3 .f32) : FVec Ideal S8x2048 .f32 :=
  transpose S8x2048 [1, 0] (pad S2048x8 ![0, 0] ![0, 5] ![0, 0] Y (sitofp (F := Ideal) .f32 (constantI S_ 32 0#32)) pads_S2048x3_S2048x8_000_050 h_S_) transposes_S2048x8_S8x2048_1_0

/-- The counts, a ligand block's along its row. -/
def rowsOf (N : FVec Ideal S16x128x128 .f32) : FVec Ideal S16x16384 .f32 := shapeCast S16x16384 N shapeCasts_S16x128x128_S16x16384

/-- The ligand blocks' feature sums, added up. -/
def sumsOf (L : FVec Ideal S16x1x512 .f32) : FVec Ideal S512 .f32 :=
  Host.reduceAdd (shapeCast S16x512 L shapeCasts_S16x1x512_S16x512) (constant (F := Ideal) S_ .f32 0x00000000#32) reducesTo_S16x512_S512_d0 h_S_

/-- The two halves of the result. -/
def resOf (A B : FVec Ideal S512 .f32) : FVec Ideal S1024 .f32 :=
  concatenate S1024 0 [⟨S512, A⟩, ⟨S512, mulf B (broadcastInDim S512 ![] bcast_S_S512 (constant (F := Ideal) S_ .f32 0x3A000000#32))⟩] concatenates_S512_S512_S1024_d0

/-- The padding is zero. -/
theorem zero_word : FloatOps.sitofp (F := Ideal) .f32 (0#32 : BitVec 32) = (0 : EReal) := by
  show (((0#32 : BitVec 32).toInt : ℝ) : EReal) = 0
  simp

/-- A padded protein position. -/
theorem padX_at (X : FVec Ideal S16384x3 .f32) (i : Fin 16384) (x : Fin 8) :
    padX X (ix2 i x) = if h : x.val < 3 then X (ix2 i ⟨x.val, h⟩) else (0 : EReal) := by
  pointwise [padX]
  rw [zero_word]

/-- A padded ligand position. -/
theorem padY_at (Y : FVec Ideal S2048x3 .f32) (x : Fin 8) (r : Fin 2048) :
    padY Y (ix2 x r) = if h : x.val < 3 then Y (ix2 r ⟨x.val, h⟩) else (0 : EReal) := by
  pointwise [padY]
  rw [zero_word]

/-- The count of atom `i` is at row `i / 128`, column `i % 128` of its block. -/
theorem rowsOf_at (N : FVec Ideal S16x128x128 .f32) (b : Fin 16) (i : Fin 16384) :
    rowsOf N (ix2 b i) = N (ix3 b ⟨i.val / 128, by omega⟩ ⟨i.val % 128, by omega⟩) := by
  pointwise [rowsOf]

/-- The sum over the blocks. -/
theorem sumsOf_at (L : FVec Ideal S16x1x512 .f32) (f : Fin 512) : sumsOf L (ix1 f) = ∑ b : Fin 16, L (ix3 b 0 f) := by
  pointwise [sumsOf]

/-- The first half as it is, the second scaled. -/
theorem resOf_at (A B : FVec Ideal S512 .f32) (f : Fin 1024) :
    resOf A B (ix1 f) = if h : f.val < 512 then A (ix1 ⟨f.val, h⟩) else B (ix1 ⟨f.val - 512, by omega⟩) * Ideal.ofBits .f32 973078528#32 := by
  pointwise [resOf]

/-! ## What the buffers hold -/

variable (m : (ℓ : Loc nD τ sig) → Buf (Elt Ideal) ℓ) (c : Dev nD)

/-- The first call's protein operand. -/
theorem held_v0 : V1 m c main_call0_v0 = padX (m ((c : Thread nD τ).loc main_arg0)) := by
  rfl

/-- The first call's ligand operand. -/
theorem held_v2 : V1 m c main_call0_v2 = padY (m ((c : Thread nD τ).loc main_arg2)) := by
  rfl

variable (o : Outs (F := Ideal))

/-- The second call's counts. -/
theorem held_v4 : V3 m o c main_call0_v4 = rowsOf (o 2 main_call0_v3_0 c) := by
  rfl

/-- The first half of the result. -/
theorem held_v6 : V3 m o c main_call0_v6 = sumsOf (o 2 main_call0_v3_1 c) := by
  rfl

/-- The result. -/
theorem held_res : V5 m o c main_v0 = resOf (V3 m o c main_call0_v6) (o 4 main_call0_v7 c) := by
  rfl

end Cert.KernelIdeal.Select
-- ==== Proof.Calls.lean ====
module

public import proofs.«01_k».proof.Proof.Held

@[expose] public section

/-! # What the two calls leave in their arrays -/

set_option maxRecDepth 16384

noncomputable section

namespace Cert.KernelIdeal.Select

open Cert.KernelIdeal Cert.KernelIdeal.Gen
open Idealize.ShloMosaic Idealize.ShloMosaic.TcCoe

variable (V : (c : Dev nD) → (b : Ref sig .tc) → Buf (Elt Ideal) ((c : Thread nD τ).loc b)) (c : Dev nD)

/-- Where the first call's windows stand at a point. -/
theorem maps0 : ∀ t : Fin cfg0.N, win0_0.index t = ![0, t.val] ∧ win0_1.index t = ![0, 0] ∧ win0_2.index t = ![t.val, 0]
    ∧ win0_3.index t = ![t.val, 0, 0] ∧ win0_4.index t = ![t.val, 0, 0] :=
  (by decide +kernel : ∀ t : Fin grid0.N, _)

/-- Where the second call's windows stand at a point. -/
theorem maps1 : ∀ t : Fin cfg1.N, win1_0.index t = ![0, t.val] ∧ win1_1.index t = ![t.val, 0] ∧ win1_2.index t = ![0] :=
  (by decide +kernel : ∀ t : Fin grid1.N, _)

/-- A point of the first call. -/
abbrev pt0 (b : Fin 16) : Fin cfg0.N := ⟨b.val, lt_of_lt_of_eq b.isLt N_0.symm⟩
/-- A point of the second call. -/
abbrev pt1 (b : Fin 16) : Fin cfg1.N := ⟨b.val, lt_of_lt_of_eq b.isLt N_1.symm⟩

/-! ## The blocks -/

/-- Point `b` reads the ligand positions of block `b`. -/
theorem blk0_0 (b : Fin 16) (x : Fin 8) (l : Fin 128) :
    (show FVec Ideal S8x128 .f32 from inBlk0 V c 0 (pt0 b)) (ix2 x l) = (show FVec Ideal S8x2048 .f32 from V c main_call0_v2) (ix2 x ⟨b.val * 128 + l.val, by omega⟩) := by
  blk_ext [inBlk0, maps0 (pt0 b)]

/-- Every point reads all protein positions. -/
theorem blk0_1 (b : Fin 16) (i : Fin 16384) (x : Fin 8) :
    (show FVec Ideal S16384x8 .f32 from inBlk0 V c 1 (pt0 b)) (ix2 i x) = (show FVec Ideal S16384x8 .f32 from V c main_call0_v0) (ix2 i x) := by
  blk_ext [inBlk0, maps0 (pt0 b)]

/-- Point `b` reads the ligand features of block `b`. -/
theorem blk0_2 (b : Fin 16) (l : Fin 128) (f : Fin 512) :
    (show FVec Ideal S128x512 .f32 from inBlk0 V c 2 (pt0 b)) (ix2 l f) = (show FVec Ideal S2048x512 .f32 from V c main_arg3) (ix2 ⟨b.val * 128 + l.val, by omega⟩ f) := by
  blk_ext [inBlk0, maps0 (pt0 b)]

/-- Point `s` of the second call reads the counts of atoms `1024 s` on. -/
theorem blk1_0 (s : Fin 16) (b : Fin 16) (x : Fin 1024) :
    (show FVec Ideal S16x1024 .f32 from inBlk1 V c 0 (pt1 s)) (ix2 b x) = (show FVec Ideal S16x16384 .f32 from V c main_call0_v4) (ix2 b ⟨s.val * 1024 + x.val, by omega⟩) := by
  blk_ext [inBlk1, maps1 (pt1 s)]

/-- Point `s` of the second call reads the features of atoms `1024 s` on. -/
theorem blk1_1 (s : Fin 16) (x : Fin 1024) (f : Fin 512) :
    (show FVec Ideal S1024x512 .f32 from inBlk1 V c 1 (pt1 s)) (ix2 x f) = (show FVec Ideal S16384x512 .f32 from V c main_arg1) (ix2 ⟨s.val * 1024 + x.val, by omega⟩ f) := by
  blk_ext [inBlk1, maps1 (pt1 s)]

/-! ## The first call's arrays -/

/-- The counts of every ligand block. -/
def allCounts : FVec Ideal S16x128x128 .f32 := fun j => counts V c (pt0 (j 0)) (ix3 0 (j 1) (j 2))

/-- The feature sum of every ligand block. -/
def allSums : FVec Ideal S16x1x512 .f32 := fun j => k0_pay1 (F := Ideal) (inBlk0 V c 2 (pt0 (j 0))) (ix3 0 0 (j 2))

/-- The counts array after the first call. -/
theorem arr0_3 : (dat0 V c).arrAt 3 cfg0.N = allCounts V c := by
  refine (dat0 V c).arrAt_eq_of_covers 3 _ (by decide +kernel) fun t hf y => ?_
  blk_simp
  rw [after0_3]
  unfold allCounts
  have hv : (((win0_3.blk t).view.emb y 0 : Fin _) : ℕ) = t.val := by
    blk_simp [maps0 t]
  have ht : pt0 ((win0_3.blk t).view.emb y 0) = t := Fin.ext hv
  rw [ht]
  refine congrArg (counts V c t) ?_
  blk_ext [maps0 t]

/-- The sums array after the first call. -/
theorem arr0_4 : (dat0 V c).arrAt 4 cfg0.N = allSums V c := by
  refine (dat0 V c).arrAt_eq_of_covers 4 _ (by decide +kernel) fun t hf y => ?_
  blk_simp
  rw [after0_4]
  unfold allSums
  have hv : (((win0_4.blk t).view.emb y 0 : Fin _) : ℕ) = t.val := by
    blk_simp [maps0 t]
  have ht : pt0 ((win0_4.blk t).view.emb y 0) = t := Fin.ext hv
  rw [ht]
  refine congrArg (k0_pay1 (F := Ideal) (inBlk0 V c 2 t)) ?_
  blk_ext [maps0 t]

/-! ## The second call's array -/

/-- What a point of the second call leaves in its result's buffer. -/
theorem after1_2 (t : Fin cfg1.N) : (dat1 V c).after 2 t = acc V c t.val t.isLt := by dsimp only [dat1]

/-- The second call leaves the sum after its last point. -/
theorem arr1_2 : (dat1 V c).arrAt 2 cfg1.N = acc V c 15 (lt_of_lt_of_eq (by omega) N_1.symm) := by
  refine (dat1 V c).arrAt_eq_of_after_last 2 (pt1 15) (by decide +kernel) _ fun j => ?_
  blk_simp
  rw [after1_2]
  rfl

/-- The weighted sum of one block of protein atoms. -/
theorem pay1_at (v : FVec Ideal S16x1024 .f32) (w : FVec Ideal S1024x512 .f32) (f : Fin 512) :
    k1_pay1 (F := Ideal) v w (ix1 f) = ∑ x : Fin 1024, (∑ b : Fin 16, v (ix2 b x)) * w (ix2 x f) := by
  pointwise [k1_pay1]

/-- A later point adds its block's weighted sum. -/
theorem pay2_at (v : FVec Ideal S16x1024 .f32) (w : FVec Ideal S1024x512 .f32) (z : FVec Ideal S512 .f32) (f : Fin 512) :
    k1_pay2 (F := Ideal) v w z (ix1 f) = (z (ix1 f) + k1_pay1 (F := Ideal) v w (ix1 f) : EReal) := by
  pointwise [k1_pay2, k1_pay1]

/-- The sum after point `n` is over the points up to it. -/
theorem acc_sum (f : Fin 512) (n : ℕ) (h : n < cfg1.N) :
    acc V c n h (ix1 f) = ∑ s : Fin (n + 1), (k1_pay1 (F := Ideal) (inBlk1 V c 0 ⟨s.val, by omega⟩) (inBlk1 V c 1 ⟨s.val, by omega⟩) (ix1 f) : EReal) := by
  induction n with
  | zero => rw [Fin.sum_univ_one]; rfl
  | succ n ih =>
    rw [Fin.sum_univ_castSucc, acc, pay2_at, ih]
    rfl

end Cert.KernelIdeal.Select
-- ==== Proof.Rank.lean ====
module

public import Mathlib.Data.EReal.Basic
public import Mathlib.Data.Fintype.EquivFin
public import Mathlib.Data.Fintype.Card
public import Mathlib.Order.Interval.Finset.Nat

@[expose] public section

/-! # The order of a column of distances

Atoms ordered by distance, equal distances by number; the rank of an atom is how many come before it. The atom of rank
`t` is what is left over first when the atoms of smaller rank are struck out — from the whole column, or from its chunks
by comparing the chunks' first leftovers only. -/

noncomputable section

namespace Cert.Nearest

variable {n : ℕ} (a : Fin n → EReal)

/-- Atom `i` is nearer than atom `j`, or as near and of smaller number. -/
def Before (i j : Fin n) : Prop := a i < a j ∨ (a i = a j ∧ i < j)

theorem before_irrefl (i : Fin n) : ¬ Before a i i := by
  rintro (h | ⟨_, h⟩)
  · exact lt_irrefl _ h
  · exact lt_irrefl _ h

theorem before_trans {i j k : Fin n} (h : Before a i j) (h' : Before a j k) : Before a i k := by
  rcases h with h | ⟨e, h⟩ <;> rcases h' with h' | ⟨e', h'⟩
  · exact .inl (h.trans h')
  · exact .inl (e' ▸ h)
  · exact .inl (e ▸ h')
  · exact .inr ⟨e.trans e', h.trans h'⟩

theorem before_total {i j : Fin n} (h : i ≠ j) : Before a i j ∨ Before a j i := by
  rcases lt_trichotomy (a i) (a j) with h' | h' | h'
  · exact .inl (.inl h')
  · rcases lt_or_gt_of_ne h with h | h
    · exact .inl (.inr ⟨h', h⟩)
    · exact .inr (.inr ⟨h'.symm, h⟩)
  · exact .inr (.inl h')

open Classical in
/-- How many atoms come before `i`. -/
def rank (i : Fin n) : ℕ := (Finset.univ.filter fun j => Before a j i).card

theorem rank_lt_of_before {i j : Fin n} (h : Before a i j) : rank a i < rank a j := by
  classical
  unfold rank
  refine Finset.card_lt_card ⟨fun k hk => ?_, fun hs => ?_⟩
  · simp only [Finset.mem_filter, Finset.mem_univ, true_and] at hk ⊢
    exact before_trans a hk h
  · have := hs (show i ∈ _ by simpa using h)
    simp only [Finset.mem_filter, Finset.mem_univ, true_and] at this
    exact before_irrefl a i this

theorem before_iff_rank_lt {i j : Fin n} : Before a i j ↔ rank a i < rank a j := by
  refine ⟨rank_lt_of_before a, fun h => ?_⟩
  by_cases e : i = j
  · subst e; exact absurd h (lt_irrefl _)
  · exact (before_total a e).resolve_right fun h' => absurd (rank_lt_of_before a h') (by omega)

theorem rank_injective : Function.Injective (rank a) := fun i j h => by
  by_contra e
  rcases before_total a e with h' | h' <;> have := rank_lt_of_before a h' <;> omega

theorem rank_lt (i : Fin n) : rank a i < n := by
  classical
  unfold rank
  calc _ < (Finset.univ : Finset (Fin n)).card := Finset.card_lt_card ⟨Finset.filter_subset _ _, fun hs => by
        have := hs (Finset.mem_univ i)
        simp only [Finset.mem_filter, Finset.mem_univ, true_and] at this
        exact before_irrefl a i this⟩
    _ = n := by simp

/-- Every rank below `n` is some atom's. -/
theorem exists_rank {t : ℕ} (ht : t < n) : ∃ i, rank a i = t := by
  have hinj : Function.Injective fun i => (⟨rank a i, rank_lt a i⟩ : Fin n) := fun i j h => rank_injective a (Fin.mk.inj_iff.mp h)
  obtain ⟨i, hi⟩ := Finite.injective_iff_surjective.mp hinj ⟨t, ht⟩
  exact ⟨i, Fin.mk.inj_iff.mp hi⟩

/-- The atom of rank `t`. -/
def nth (t : ℕ) (ht : t < n) : Fin n := (exists_rank a ht).choose

theorem rank_nth (t : ℕ) (ht : t < n) : rank a (nth a t ht) = t := (exists_rank a ht).choose_spec

theorem eq_nth {i : Fin n} {t : ℕ} (ht : t < n) (h : rank a i = t) : i = nth a t ht :=
  rank_injective a (h.trans (rank_nth a t ht).symm)

/-- With the atoms of rank below `t` struck out, the first of the others has rank `t`. -/
theorem rank_of_least {t : ℕ} (ht : t < n) {x : Fin n} (hx : t ≤ rank a x) (hl : ∀ j, t ≤ rank a j → j ≠ x → Before a x j) :
    rank a x = t := by
  by_cases e : nth a t ht = x
  · rw [← e, rank_nth]
  · have := rank_lt_of_before a (hl _ (rank_nth a t ht).ge e)
    rw [rank_nth] at this
    omega

/-- The column with the atoms of rank below `t` struck out by an infinite distance. -/
def struck (t : ℕ) (i : Fin n) : EReal := if rank a i < t then ⊤ else a i

theorem struck_zero : struck a 0 = a := by
  funext i
  simp [struck]

/-- Something is left. -/
theorem struck_lt_top (hfin : ∀ i, a i < ⊤) {t : ℕ} (ht : t < n) : ∃ i, struck a t i < ⊤ :=
  ⟨nth a t ht, by rw [struck, if_neg (by rw [rank_nth]; omega)]; exact hfin _⟩

/-- The first least entry of the struck-out column is the atom of rank `t`. -/
theorem rank_of_struck {t : ℕ} (ht : t < n) {x : Fin n} (hx : struck a t x < ⊤) (hl : ∀ k, struck a t x ≤ struck a t k)
    (hf : ∀ k, struck a t k = struck a t x → x ≤ k) : rank a x = t := by
  have hx' : ¬ rank a x < t := fun h => by rw [struck, if_pos h] at hx; exact lt_irrefl _ hx
  refine rank_of_least a ht (not_lt.mp hx') fun j hj e => ?_
  have h1 := hl j
  have h2 := hf j
  rw [struck, struck, if_neg hx', if_neg (not_lt.mpr hj)] at h1 h2
  rcases h1.lt_or_eq with h | h
  · exact .inl h
  · exact .inr ⟨h, lt_of_le_of_ne (h2 h.symm) (Ne.symm e)⟩

/-- Striking it out too. -/
theorem struck_succ {t : ℕ} {x : Fin n} (hx : rank a x = t) (i : Fin n) : struck a (t + 1) i = if i = x then ⊤ else struck a t i := by
  by_cases e : i = x
  · rw [if_pos e, e, struck, if_pos (by omega)]
  · rw [if_neg e, struck, struck]
    have : rank a i ≠ t := fun h => e (rank_injective a (h.trans hx.symm))
    by_cases h : rank a i < t
    · rw [if_pos h, if_pos (by omega)]
    · rw [if_neg h, if_neg (by omega)]

/-- The first least entry lies at its own value. -/
theorem struck_of_rank {t : ℕ} {x : Fin n} (hx : rank a x = t) : struck a t x = a x := by
  rw [struck, if_neg (by omega)]

/-! ## By chunks -/

section Chunks
variable (b : Fin 16384 → EReal)

/-- Atom `p` of chunk `q`. -/
def atom (q p : Fin 128) : Fin 16384 := ⟨128 * q.val + p.val, by omega⟩

theorem atom_val (q p : Fin 128) : (atom q p).val = 128 * q.val + p.val := rfl

theorem exists_atom (i : Fin 16384) : ∃ q p, i = atom q p :=
  ⟨⟨i.val / 128, by omega⟩, ⟨i.val % 128, by omega⟩, Fin.ext (by rw [atom_val]; simp only; omega)⟩

theorem atom_inj {q p q' p' : Fin 128} : atom q p = atom q' p' ↔ q = q' ∧ p = p' := by
  refine ⟨fun h => ?_, fun ⟨h, h'⟩ => h ▸ h' ▸ rfl⟩
  have := congrArg Fin.val h
  rw [atom_val, atom_val] at this
  exact ⟨Fin.ext (by omega), Fin.ext (by omega)⟩

/-- The distances of a chunk. -/
def chunk (q p : Fin 128) : EReal := b (atom q p)

theorem before_chunk {q p p' : Fin 128} (h : Before (chunk b q) p p') : Before b (atom q p) (atom q p') := by
  rcases h with h | ⟨e, h⟩
  · exact .inl h
  · exact .inr ⟨e, by rw [Fin.lt_def, atom_val, atom_val]; rw [Fin.lt_def] at h; omega⟩

/-- `m q` atoms of every chunk `q` are taken, its first ones, and together they are the first `t` atoms of the column. -/
def Taken (t : ℕ) (m : Fin 128 → ℕ) : Prop := ∀ q p, rank b (atom q p) < t ↔ rank (chunk b q) p < m q

theorem taken_zero : Taken b 0 fun _ => 0 := fun q p => by simp

/-- The first of the chunks' next atoms is the column's next atom. -/
theorem Taken.next {t : ℕ} {m : Fin 128 → ℕ} (h : Taken b t m) (ht : t < 16384) (hd : Fin 128 → Fin 128)
    (hhd : ∀ q, rank (chunk b q) (hd q) = m q) (q₀ : Fin 128) (hle : ∀ q, b (atom q₀ (hd q₀)) ≤ b (atom q (hd q)))
    (hf : ∀ q, b (atom q (hd q)) = b (atom q₀ (hd q₀)) → (atom q₀ (hd q₀)).val ≤ (atom q (hd q)).val) :
    rank b (atom q₀ (hd q₀)) = t ∧ Taken b (t + 1) fun q => if q = q₀ then m q + 1 else m q := by
  have hx : rank b (atom q₀ (hd q₀)) = t := by
    refine rank_of_least b ht (not_lt.mp fun h' => ?_) fun j hj e => ?_
    · have := (h _ _).mp h'
      rw [hhd] at this
      omega
    · obtain ⟨q, p, rfl⟩ := exists_atom j
      have hp : m q ≤ rank (chunk b q) p := not_lt.mp fun h' => absurd ((h q p).mpr h') (by omega)
      have h1 : p = hd q ∨ Before b (atom q (hd q)) (atom q p) := by
        by_cases e' : p = hd q
        · exact .inl e'
        · refine .inr (before_chunk b ((before_iff_rank_lt _).mpr ?_))
          rw [hhd]
          exact lt_of_le_of_ne hp fun h' => e' (rank_injective _ (h'.symm.trans (hhd q).symm))
      have h2 : q = q₀ ∨ Before b (atom q₀ (hd q₀)) (atom q (hd q)) := by
        by_cases e' : q = q₀
        · exact .inl e'
        · refine .inr ?_
          rcases (hle q).lt_or_eq with h | h
          · exact .inl h
          · refine .inr ⟨h, lt_of_le_of_ne (hf q h.symm) fun h' => ?_⟩
            exact e' (atom_inj.mp h').1.symm
      rcases h1 with rfl | h1
      · rcases h2 with rfl | h2
        · exact absurd rfl e
        · exact h2
      · rcases h2 with rfl | h2
        · exact h1
        · exact before_trans b h2 h1
  refine ⟨hx, fun q p => ?_⟩
  have hq := h q p
  by_cases e : atom q p = atom q₀ (hd q₀)
  · obtain ⟨rfl, rfl⟩ := atom_inj.mp e
    rw [hx, hhd]
    simp
  · have h1 : rank b (atom q p) ≠ t := fun h' => e (rank_injective b (h'.trans hx.symm))
    by_cases e' : q = q₀
    · subst e'
      have h2 : rank (chunk b q) p ≠ m q := fun h' => e (congrArg (atom q) (rank_injective _ (h'.trans (hhd q).symm)))
      beta_reduce
      rw [if_pos rfl]
      omega
    · beta_reduce
      rw [if_neg e']
      omega

end Chunks

end Cert.Nearest
-- ==== Proof.FirstLeast.lean ====
module

public import Idealize.ShloMosaic.PureOps.Ideal
public import Idealize.ShloMosaic.PureOps.Reduce
public import Idealize.ShloMosaic.Lib.SortNet.Extract
public import Idealize.ShloMosaic.Lib.WordCmp

@[expose] public section

/-! # The first least entry by two minima

The kernel finds an entry by the minimum of the distances and then the minimum, over the entries at that distance, of
their numbers, 2^30 standing in for the others. Here: what the two folds find. -/

noncomputable section

namespace Cert.Nearest

open Idealize.ShloMosaic

/-- A fold of `min` from `⊤` is below every entry, and is one of them or `⊤`. -/
theorem fold_min_spec {ι : Type} (s : Finset ι) (f : ι → EReal) :
    (∀ k ∈ s, s.fold min ⊤ f ≤ f k) ∧ (s.fold min ⊤ f = ⊤ ∨ ∃ k ∈ s, s.fold min ⊤ f = f k) := by
  classical
  induction s using Finset.induction_on with
  | empty => exact ⟨by simp, .inl (by simp)⟩
  | insert i s hi ih =>
    rw [Finset.fold_insert hi]
    refine ⟨fun k hk => ?_, ?_⟩
    · rcases Finset.mem_insert.mp hk with rfl | hk
      · exact min_le_left _ _
      · exact (min_le_right _ _).trans (ih.1 k hk)
    · rcases min_choice (f i) (s.fold min ⊤ f) with h | h
      · exact .inr ⟨i, Finset.mem_insert_self _ _, h⟩
      · rcases ih.2 with h' | ⟨k, hk, h'⟩
        · exact .inl (h.trans h')
        · exact .inr ⟨k, Finset.mem_insert_of_mem hk, h.trans h'⟩

/-- The number of an entry as a 32-bit word, read back. -/
theorem toInt_ofNat {k : ℕ} (h : k < 2 ^ 30) : (BitVec.ofNat 32 k).toInt = k := by
  exact WordCmp.toInt_ofNat_of_lt (by omega)

theorem ofNat_inj {k k' : ℕ} (h : k < 2 ^ 30) (h' : k' < 2 ^ 30) : BitVec.ofNat 32 k = BitVec.ofNat 32 k' ↔ k = k' := by
  refine ⟨fun e => ?_, fun e => e ▸ rfl⟩
  have := congrArg BitVec.toInt e
  rw [toInt_ofNat h, toInt_ofNat h'] at this
  exact_mod_cast this

/-- A fold of the signed minimum is below every word met, and is one of them or the start. -/
theorem fold_minsi_spec {ι : Type} (s : Finset ι) (init : BitVec 32) (f : ι → BitVec 32) :
    (∀ k ∈ s, (s.fold IntOp.minsi init f).toInt ≤ (f k).toInt)
      ∧ (s.fold IntOp.minsi init f = init ∨ ∃ k ∈ s, s.fold IntOp.minsi init f = f k) := by
  classical
  induction s using Finset.induction_on with
  | empty => exact ⟨by simp, .inl (by simp)⟩
  | insert i s hi ih =>
    rw [Finset.fold_insert hi]
    have hm := SortNet.toInt_minsi (f i) (s.fold IntOp.minsi init f)
    refine ⟨fun k hk => ?_, ?_⟩
    · rw [hm]
      rcases Finset.mem_insert.mp hk with rfl | hk
      · exact min_le_left _ _
      · exact (min_le_right _ _).trans (ih.1 k hk)
    · rcases min_choice (f i).toInt (s.fold IntOp.minsi init f).toInt with h | h
      · exact .inr ⟨i, Finset.mem_insert_self _ _, BitVec.eq_of_toInt_eq (hm.trans h)⟩
      · have h := BitVec.eq_of_toInt_eq (hm.trans h)
        rcases ih.2 with h' | ⟨k, hk, h'⟩
        · exact .inl (h.trans h')
        · exact .inr ⟨k, Finset.mem_insert_of_mem hk, h.trans h'⟩

/-- The number of the first least entry: `c` the entries, `g` their numbers. -/
theorem firstLeast {n : ℕ} (c : Fin n → EReal) (g : Fin n → ℕ) (hg : ∀ k, g k < 2 ^ 30) (hfin : ∃ k, c k < ⊤) (w : Fin n → BitVec 32)
    (hw : ∀ k, w k = if c k = Finset.univ.fold min ⊤ c then BitVec.ofNat 32 (g k) else 1073741824#32) :
    ∃ x, Finset.univ.fold IntOp.minsi 2147483647#32 w = BitVec.ofNat 32 (g x) ∧ c x = Finset.univ.fold min ⊤ c ∧ c x < ⊤
      ∧ (∀ k, c x ≤ c k) ∧ ∀ k, c k = c x → g x ≤ g k := by
  classical
  obtain ⟨hle, hm⟩ := fold_min_spec Finset.univ c
  obtain ⟨k₀, hk₀⟩ := hfin
  obtain ⟨k₁, -, hk₁⟩ := hm.resolve_left fun h => absurd (hle k₀ (Finset.mem_univ _)) (by rw [h]; exact not_le.mpr hk₀)
  obtain ⟨hi, hmem⟩ := fold_minsi_spec Finset.univ 2147483647#32 w
  have h1 : (Finset.univ.fold IntOp.minsi 2147483647#32 w).toInt ≤ g k₁ := by
    have := hi k₁ (Finset.mem_univ _)
    rwa [hw, if_pos hk₁.symm, toInt_ofNat (hg _)] at this
  have hg1 : (g k₁ : ℤ) < 2 ^ 30 := by exact_mod_cast hg k₁
  obtain ⟨x, -, hx⟩ := hmem.resolve_left fun h => by
    rw [h] at h1
    have : (2147483647#32 : BitVec 32).toInt = 2147483647 := by decide
    omega
  have hcx : c x = Finset.univ.fold min ⊤ c := by
    by_contra h
    rw [hw, if_neg h] at hx
    rw [hx] at h1
    have : (1073741824#32 : BitVec 32).toInt = 1073741824 := by decide
    omega
  refine ⟨x, by rw [hx, hw, if_pos hcx], hcx, ?_, fun k => by rw [hcx]; exact hle k (Finset.mem_univ _), fun k hk => ?_⟩
  · rw [hcx]
    exact (hle k₀ (Finset.mem_univ _)).trans_lt hk₀
  · have := hi k (Finset.mem_univ _)
    rw [hx, hw k, hw x, if_pos hcx, if_pos (hk.trans hcx), toInt_ofNat (hg _), toInt_ofNat (hg _)] at this
    exact_mod_cast this

end Cert.Nearest
-- ==== Proof.Slow.lean ====
module

public import proofs.«01_k».proof.Proof.Rank
public import proofs.«01_k».proof.Proof.FirstLeast
public import proofs.«01_k».proof.Proof.SelectRun
public import Idealize.ShloMosaic.Lib.Pointwise

@[expose] public section

/-! # What the fallback selects

After `t` extractions the atoms of rank below `t` are struck out of every column, so row `t` holds the atom of rank `t`. -/

set_option maxRecDepth 16384

noncomputable section

namespace Cert.KernelIdeal.Select

open Cert.KernelIdeal Cert.KernelIdeal.Gen Cert.Nearest
open Idealize.ShloMosaic

/-- A column of the block's distances. -/
def column (d : FVec Ideal S16384x128 .f32) (l : Fin 128) (i : Fin 16384) : EReal := d (ix2 i l)

theorem inf_bits : Ideal.ofBits .f32 2139095040#32 = ⊤ := by simp [Ideal.ofBits, Ideal.ieee]

theorem is_least_at (d : FVec Ideal S16384x128 .f32) (i : Fin 16384) (l : Fin 128) :
    k0_pay186 d (ix2 i l) = BitVec.ofBool (decide (column d l i = Finset.univ.fold min ⊤ (column d l))) := by
  pointwise [k0_pay186]
  rw [inf_bits]
  rfl

theorem least_at (d : FVec Ideal S16384x128 .f32) (l : Fin 128) :
    k0_pay188 d (ix2 0 l) = Finset.univ.fold IntOp.minsi 2147483647#32 fun x : Fin 16384 =>
      if column d l x = Finset.univ.fold min ⊤ (column d l) then BitVec.ofNat 32 x.val else 1073741824#32 := by
  pointwise [k0_pay188, k0_pay187, k0_pay186]
  rw [inf_bits]
  rfl

/-- What the extraction finds in a column, and leaves of it. -/
theorem extract_at (d : FVec Ideal S16384x128 .f32) (l : Fin 128) (hfin : ∃ i, column d l i < ⊤) :
    ∃ x : Fin 16384, k0_pay188 d (ix2 0 l) = BitVec.ofNat 32 x.val ∧ column d l x < ⊤ ∧ (∀ k, column d l x ≤ column d l k)
      ∧ (∀ k, column d l k = column d l x → x ≤ k)
      ∧ ∀ i, column (k0_pay189 d) l i = if i = x then ⊤ else column d l i := by
  obtain ⟨x, hr, hx, hlt, hle, hf⟩ := firstLeast (column d l) (fun i => i.val) (fun i => by have := i.isLt; omega) hfin _ fun k => rfl
  rw [← least_at] at hr
  refine ⟨x, hr, hlt, hle, fun k hk => hf k hk, fun i => ?_⟩
  have e : k0_pay189 d (ix2 i l) = Scalar.select (IntOp.andi (k0_pay186 d (ix2 i l))
      (IntOp.cmpi CmpIPredicate.eq (BitVec.ofNat 32 i.val) (k0_pay188 d (ix2 0 l)))) (Ideal.ofBits .f32 2139095040#32) (d (ix2 i l)) := by
    have e0 : k0_pay188 d (ix2 0 l) = k0_pay187 d (ix2 0 l) := by
      pointwise [k0_pay188]
    rw [e0]
    pointwise [k0_pay189]
  rw [column, e, hr, is_least_at, inf_bits]
  have hi := ofNat_inj (k := i.val) (k' := x.val) (by have := i.isLt; omega) (by have := x.isLt; omega)
  by_cases h : i = x
  · subst h
    rw [if_pos rfl, hx]
    simp [IntOp.andi, IntOp.cmpi, Scalar.select]
  · have : ¬ BitVec.ofNat 32 i.val = BitVec.ofNat 32 x.val := fun e => h (Fin.ext (hi.mp e))
    rw [if_neg h]
    have this : (BitVec.ofNat 32 i.val == BitVec.ofNat 32 x.val) = false := beq_eq_false_iff_ne.mpr this
    simp [IntOp.andi, IntOp.cmpi, Scalar.select, this, column]

/-- After `k` extractions the atoms of rank below `k` are struck out. -/
theorem strike_eq (d : FVec Ideal S16384x128 .f32) (l : Fin 128) (hfin : ∀ i, column d l i < ⊤) (k : ℕ) (hk : k ≤ 16) :
    column (strike d k) l = struck (column d l) k := by
  induction k with
  | zero => rw [struck_zero]; rfl
  | succ k ih =>
    have ih := ih (by omega)
    have e : strike d (k + 1) = k0_pay189 (strike d k) := Function.iterate_succ_apply' _ _ _
    obtain ⟨x, -, hlt, hle, hf, hn⟩ := extract_at (strike d k) l (by rw [ih]; exact struck_lt_top _ hfin (by omega))
    rw [ih] at hlt hle hf
    funext i
    rw [e, hn, ih, struck_succ _ (rank_of_struck _ (by omega) hlt hle hf)]

/-- Row `t` of the fallback is the atom of rank `t`. -/
theorem slowRows_eq (d : FVec Ideal S16384x128 .f32) (t : Fin 16) (l : Fin 128) (hfin : ∀ i, column d l i < ⊤) :
    ∃ x, slowRows d (ix2 t l) = BitVec.ofNat 32 x.val ∧ rank (column d l) x = t.val := by
  have e := strike_eq d l hfin t.val (by have := t.isLt; omega)
  obtain ⟨x, hx, hlt, hle, hf, -⟩ := extract_at (strike d t.val) l (by rw [e]; exact struck_lt_top _ hfin (by have := t.isLt; omega))
  rw [e] at hlt hle hf
  exact ⟨x, hx, rank_of_struck _ (by have := t.isLt; omega) hlt hle hf⟩

end Cert.KernelIdeal.Select
-- ==== Proof.Fast.lean ====
module

public import proofs.«01_k».proof.Proof.Slow

@[expose] public section

/-! # What the sixteen rounds select

Per chunk and column the kernel stores the first five atoms, and moves through them as they are taken. While no chunk has
run out, the chunks' heads are their next atoms, so the first of the heads is the column's next atom. -/

set_option maxRecDepth 16384

noncomputable section

namespace Cert.KernelIdeal.Select

open Cert.KernelIdeal Cert.KernelIdeal.Gen Cert.Nearest
open Idealize.ShloMosaic

/-! ## The chunks -/

/-- A chunk of a column, in an array of chunks. -/
def cell (c : FVec Ideal S128x128x128 .f32) (q l p : Fin 128) : EReal := c (ix3 q p l)

theorem cell_chunks (d : FVec Ideal S16384x128 .f32) (q l : Fin 128) : cell (chunks d) q l = chunk (column d l) q := by
  funext p
  have e : chunks d (ix3 q p l) = d (ix2 (atom q p) l) := by
    pointwise [chunks]
    congr 2
    exact Fin.ext (by rw [atom_val]; simp only; omega)
  exact e

theorem headV_at (c : FVec Ideal S128x128x128 .f32) (q l : Fin 128) : headV c (ix2 q l) = Finset.univ.fold min ⊤ (cell c q l) := by
  pointwise [headV, chunkMin]
  rw [inf_bits]
  rfl

theorem chunkPos_at (c : FVec Ideal S128x128x128 .f32) (q l : Fin 128) :
    chunkPos c (ix3 q 0 l) = Finset.univ.fold IntOp.minsi 2147483647#32 fun x : Fin 128 =>
      if cell c q l x = Finset.univ.fold min ⊤ (cell c q l) then BitVec.ofNat 32 x.val else 1073741824#32 := by
  pointwise [chunkPos, inChunk, chunkMin]
  rw [inf_bits]
  rfl

theorem headG_at (c : FVec Ideal S128x128x128 .f32) (q l : Fin 128) :
    headG c (ix2 q l) = IntOp.addi (chunkPos c (ix3 q 0 l)) (IntOp.muli (BitVec.ofNat 32 q.val) 128#32) := by
  rw [chunkPos_at]
  pointwise [headG, chunkPos, inChunk, chunkMin, chunkNo]
  rw [inf_bits]
  rfl

theorem chunkNext_at (c : FVec Ideal S128x128x128 .f32) (q l p : Fin 128) :
    cell (chunkNext c) q l p = Scalar.select (IntOp.cmpi .eq (BitVec.ofNat 32 p.val) (chunkPos c (ix3 q 0 l))) ⊤ (cell c q l p) := by
  show chunkNext c (ix3 q p l) = _
  pointwise [chunkNext, inChunk]
  rw [inf_bits]
  rfl

theorem atom_word (q p : Fin 128) :
    IntOp.addi (BitVec.ofNat 32 p.val) (IntOp.muli (BitVec.ofNat 32 q.val) 128#32) = BitVec.ofNat 32 (atom q p).val := by
  apply BitVec.eq_of_toNat_eq
  simp only [IntOp.addi, IntOp.muli, BitVec.toNat_add, BitVec.toNat_mul, BitVec.toNat_ofNat, atom_val]
  omega

/-- What an extraction finds in a chunk, and leaves of it. -/
theorem chunk_extract (c : FVec Ideal S128x128x128 .f32) (q l : Fin 128) (hfin : ∃ p, cell c q l p < ⊤) :
    ∃ x : Fin 128, headG c (ix2 q l) = BitVec.ofNat 32 (atom q x).val ∧ headV c (ix2 q l) = cell c q l x ∧ cell c q l x < ⊤
      ∧ (∀ k, cell c q l x ≤ cell c q l k) ∧ (∀ k, cell c q l k = cell c q l x → x ≤ k)
      ∧ ∀ p, cell (chunkNext c) q l p = if p = x then ⊤ else cell c q l p := by
  obtain ⟨x, hr, hx, hlt, hle, hf⟩ := firstLeast (cell c q l) (fun i => i.val) (fun i => by have := i.isLt; omega) hfin _ fun k => rfl
  rw [← chunkPos_at] at hr
  refine ⟨x, by rw [headG_at, hr, atom_word], by rw [headV_at, hx], hlt, hle, fun k hk => hf k hk, fun p => ?_⟩
  rw [chunkNext_at, hr]
  have hi := ofNat_inj (k := p.val) (k' := x.val) (by have := p.isLt; omega) (by have := x.isLt; omega)
  by_cases h : p = x
  · subst h
    simp [IntOp.cmpi, Scalar.select]
  · have : (BitVec.ofNat 32 p.val == BitVec.ofNat 32 x.val) = false := beq_eq_false_iff_ne.mpr fun e => h (Fin.ext (hi.mp e))
    rw [if_neg h]
    simp [IntOp.cmpi, Scalar.select, this]

/-! ## The stored atoms -/

/-- Atom `k` of a chunk, in the chunk's order. -/
def entry (b : Fin 16384 → EReal) (q : Fin 128) (k : ℕ) (hk : k < 128) : Fin 16384 := atom q (nth (chunk b q) k hk)

/-- The stored distances of a chunk: its first five, then infinite. -/
def storedV (b : Fin 16384 → EReal) (q : Fin 128) (k : ℕ) : EReal := if h : k < 5 then b (entry b q k (by omega)) else ⊤

/-- The stored atoms of a chunk: its first five, then the fifth. -/
def storedG (b : Fin 16384 → EReal) (q : Fin 128) (k : ℕ) : BitVec 32 := BitVec.ofNat 32 (entry b q (min k 4) (by omega)).val

theorem chunkAt_eq (d : FVec Ideal S16384x128 .f32) (q l : Fin 128) (hfin : ∀ i, column d l i < ⊤) (k : ℕ) (hk : k ≤ 5) :
    cell (chunkAt d k) q l = struck (chunk (column d l) q) k := by
  induction k with
  | zero => rw [struck_zero]; exact cell_chunks d q l
  | succ k ih =>
    have ih := ih (by omega)
    obtain ⟨x, -, -, hlt, hle, hf, hn⟩ := chunk_extract (chunkAt d k) q l
      (by rw [ih]; exact struck_lt_top _ (fun i => hfin _) (by omega))
    rw [ih] at hlt hle hf
    funext i
    rw [show chunkAt d (k + 1) = chunkNext (chunkAt d k) from rfl, hn, ih, struck_succ _ (rank_of_struck _ (by omega) hlt hle hf)]

theorem stored_eq (d : FVec Ideal S16384x128 .f32) (q l : Fin 128) (hfin : ∀ i, column d l i < ⊤) (k : ℕ) (hk : k < 5) :
    headV (chunkAt d k) (ix2 q l) = storedV (column d l) q k ∧ headG (chunkAt d k) (ix2 q l) = storedG (column d l) q k := by
  have e := chunkAt_eq d q l hfin k (by omega)
  obtain ⟨x, hg, hv, hlt, hle, hf, -⟩ := chunk_extract (chunkAt d k) q l
    (by rw [e]; exact struck_lt_top _ (fun i => hfin _) (by omega))
  rw [e] at hv hlt hle hf
  have hr := rank_of_struck _ (by omega) hlt hle hf
  have hx : x = nth (chunk (column d l) q) k (by omega) := eq_nth _ (by omega) hr
  refine ⟨?_, ?_⟩
  · rw [hv, struck_of_rank _ hr, storedV, dif_pos hk, entry, ← hx]
    rfl
  · rw [hg, storedG]
    simp only [show min k 4 = k from by omega, entry]
    rw [← hx]

/-! ## The rounds -/

/-- Before round `t`: `n q` atoms of chunk `q` are taken, together the column's first `t`, and the heads are the stored
atoms from there on. -/
structure Round (b : Fin 16384 → EReal) (t : ℕ) (s : Heads Ideal) (l : Fin 128) (n : Fin 128 → ℕ) : Prop where
  le : ∀ q, n q ≤ 4
  taken : Taken b t n
  v0 : ∀ q, s.v0 (ix2 q l) = storedV b q (n q)
  v1 : ∀ q, s.v1 (ix2 q l) = storedV b q (n q + 1)
  v2 : ∀ q, s.v2 (ix2 q l) = storedV b q (n q + 2)
  v3 : ∀ q, s.v3 (ix2 q l) = storedV b q (n q + 3)
  v4 : ∀ q, s.v4 (ix2 q l) = storedV b q (n q + 4)
  g0 : ∀ q, s.g0 (ix2 q l) = storedG b q (n q)
  g1 : ∀ q, s.g1 (ix2 q l) = storedG b q (n q + 1)
  g2 : ∀ q, s.g2 (ix2 q l) = storedG b q (n q + 2)
  g3 : ∀ q, s.g3 (ix2 q l) = storedG b q (n q + 3)
  g4 : ∀ q, s.g4 (ix2 q l) = storedG b q (n q + 4)

theorem heads_zero (d : FVec Ideal S16384x128 .f32) :
    headsAt d 0 = start (chunkAt d 0) (chunkAt d 1) (chunkAt d 2) (chunkAt d 3) (chunkAt d 4) := rfl

theorem round_start (b : Fin 16384 → EReal) (l : Fin 128) (c0 c1 c2 c3 c4 : FVec Ideal S128x128x128 .f32)
    (h0 : ∀ q, headV c0 (ix2 q l) = storedV b q 0 ∧ headG c0 (ix2 q l) = storedG b q 0)
    (h1 : ∀ q, headV c1 (ix2 q l) = storedV b q 1 ∧ headG c1 (ix2 q l) = storedG b q 1)
    (h2 : ∀ q, headV c2 (ix2 q l) = storedV b q 2 ∧ headG c2 (ix2 q l) = storedG b q 2)
    (h3 : ∀ q, headV c3 (ix2 q l) = storedV b q 3 ∧ headG c3 (ix2 q l) = storedG b q 3)
    (h4 : ∀ q, headV c4 (ix2 q l) = storedV b q 4 ∧ headG c4 (ix2 q l) = storedG b q 4) :
    Round b 0 (start c0 c1 c2 c3 c4) l fun _ => 0 := by
  refine ⟨fun q => Nat.zero_le _, taken_zero b, ?_, ?_, ?_, ?_, ?_, ?_, ?_, ?_, ?_, ?_⟩ <;> intro q <;>
    simp only [start, Nat.zero_add]
  · exact (h0 q).1
  · exact (h1 q).1
  · exact (h2 q).1
  · exact (h3 q).1
  · exact (h4 q).1
  · exact (h0 q).2
  · exact (h1 q).2
  · exact (h2 q).2
  · exact (h3 q).2
  · exact (h4 q).2

theorem round_zero (d : FVec Ideal S16384x128 .f32) (l : Fin 128) (hfin : ∀ i, column d l i < ⊤) :
    Round (column d l) 0 (headsAt d 0) l fun _ => 0 := by
  rw [heads_zero]
  exact round_start _ _ _ _ _ _ _ (fun q => stored_eq d q l hfin 0 (by omega)) (fun q => stored_eq d q l hfin 1 (by omega))
    (fun q => stored_eq d q l hfin 2 (by omega)) (fun q => stored_eq d q l hfin 3 (by omega)) (fun q => stored_eq d q l hfin 4 (by omega))

theorem pick_at (v : FVec Ideal S128x128 .f32) (g : IVec S128x128 32) (l : Fin 128) :
    pick v g (ix2 0 l) = Finset.univ.fold IntOp.minsi 2147483647#32 fun x : Fin 128 =>
      if v (ix2 x l) = Finset.univ.fold min ⊤ (fun x : Fin 128 => v (ix2 x l)) then g (ix2 x l) else 1073741824#32 := by
  pointwise [pick]
  rw [inf_bits]

theorem win_at (s : Heads Ideal) (q l : Fin 128) : s.win (ix2 q l) = IntOp.cmpi .eq (s.g0 (ix2 q l)) (s.sel (ix2 0 l)) := by
  pointwise [Heads.win]

theorem storedV_of_le {b : Fin 16384 → EReal} {q : Fin 128} {k : ℕ} (hk : k ≤ 4) : storedV b q k = b (entry b q k (by omega)) :=
  dif_pos (by omega)

theorem storedG_of_le {b : Fin 16384 → EReal} {q : Fin 128} {k : ℕ} (hk : k ≤ 4) :
    storedG b q k = BitVec.ofNat 32 (entry b q k (by omega)).val := by
  simp only [storedG, show min k 4 = k from by omega]

/-- A round takes the column's next atom, from the chunk it flags as the winner. -/
theorem round_sel {b : Fin 16384 → EReal} {t : ℕ} {s : Heads Ideal} {l : Fin 128} {n : Fin 128 → ℕ} (h : Round b t s l n)
    (ht : t < 16) (hfin : ∀ i, b i < ⊤) :
    ∃ q₀, (∃ x, s.sel (ix2 0 l) = BitVec.ofNat 32 x.val ∧ rank b x = t) ∧ (∀ q, s.win (ix2 q l) = BitVec.ofBool (decide (q = q₀)))
      ∧ Taken b (t + 1) fun q => if q = q₀ then n q + 1 else n q := by
  have hv : (fun q => s.v0 (ix2 q l)) = fun q => b (entry b q (n q) (by have := h.le q; omega)) := by
    funext q
    rw [h.v0, storedV_of_le (h.le q)]
  obtain ⟨q₀, hr, -, -, hle, hf⟩ := firstLeast (fun q => s.v0 (ix2 q l)) (fun q => (entry b q (n q) (by have := h.le q; omega)).val)
    (fun i => by have := (entry b i (n i) (by have := h.le i; omega)).isLt; omega)
    ⟨0, by rw [show s.v0 (ix2 0 l) = _ from congrFun hv 0]; exact hfin _⟩ (fun x => if s.v0 (ix2 x l) = Finset.univ.fold min ⊤ (fun x : Fin 128 => s.v0 (ix2 x l)) then s.g0 (ix2 x l) else 1073741824#32)
    (fun q => by rw [h.g0, storedG_of_le (h.le q)])
  have hs : s.sel (ix2 0 l) = BitVec.ofNat 32 (entry b q₀ (n q₀) (by have := h.le q₀; omega)).val := by
    rw [← hr]
    exact pick_at _ _ _
  have hv' := fun q => congrFun hv q
  beta_reduce at hv' hle hf
  simp only [hv'] at hle hf
  obtain ⟨hx, hT⟩ := h.taken.next b (by omega) (fun q => nth (chunk b q) (n q) (by have := h.le q; omega)) (fun q => rank_nth _ _ _) q₀ hle hf
  refine ⟨q₀, ⟨_, hs, hx⟩, fun q => ?_, hT⟩
  rw [win_at, hs, h.g0, storedG_of_le (h.le q)]
  have hi := ofNat_inj (k := (entry b q (n q) (by have := h.le q; omega)).val) (k' := (entry b q₀ (n q₀) (by have := h.le q₀; omega)).val)
    (by have := (entry b q (n q) (by have := h.le q; omega)).isLt; omega) (by have := (entry b q₀ (n q₀) (by have := h.le q₀; omega)).isLt; omega)
  by_cases e : q = q₀
  · subst e
    simp [IntOp.cmpi]
  · have : (BitVec.ofNat 32 (entry b q (n q) (by have := h.le q; omega)).val == BitVec.ofNat 32 (entry b q₀ (n q₀) (by have := h.le q₀; omega)).val) = false :=
      beq_eq_false_iff_ne.mpr fun e' => e (atom_inj.mp (Fin.ext (hi.mp e'))).1
    simp only [IntOp.cmpi, this, e, decide_false]

theorem next_fl_at (s : Heads Ideal) (q l : Fin 128) : s.next.fl (ix2 q l) = IntOp.ori (s.fl (ix2 q l))
    (IntOp.andi (s.win (ix2 q l)) (BitVec.ofBool (decide ((FloatOps.absf (F := Ideal) (φ := .f32) (s.v1 (ix2 q l)) : EReal) = ⊤)))) := by
  pointwise [Heads.next, inf2]
  rw [inf_bits]

theorem next_at (s : Heads Ideal) (q l : Fin 128) (w : Bool) (hw : s.win (ix2 q l) = BitVec.ofBool w) :
    s.next.v0 (ix2 q l) = (if w then s.v1 (ix2 q l) else s.v0 (ix2 q l))
    ∧ s.next.v1 (ix2 q l) = (if w then s.v2 (ix2 q l) else s.v1 (ix2 q l))
    ∧ s.next.v2 (ix2 q l) = (if w then s.v3 (ix2 q l) else s.v2 (ix2 q l))
    ∧ s.next.v3 (ix2 q l) = (if w then s.v4 (ix2 q l) else s.v3 (ix2 q l))
    ∧ s.next.v4 (ix2 q l) = (if w then ⊤ else s.v4 (ix2 q l))
    ∧ s.next.g0 (ix2 q l) = (if w then s.g1 (ix2 q l) else s.g0 (ix2 q l))
    ∧ s.next.g1 (ix2 q l) = (if w then s.g2 (ix2 q l) else s.g1 (ix2 q l))
    ∧ s.next.g2 (ix2 q l) = (if w then s.g3 (ix2 q l) else s.g2 (ix2 q l))
    ∧ s.next.g3 (ix2 q l) = (if w then s.g4 (ix2 q l) else s.g3 (ix2 q l)) := by
  pointwise [Heads.next, inf2]
  rw [inf_bits, hw]
  cases w <;> simp [Scalar.select]

/-- A round that flags no chunk leaves the next round's heads. -/
theorem round_next {b : Fin 16384 → EReal} {t : ℕ} {s : Heads Ideal} {l : Fin 128} {n : Fin 128 → ℕ} (h : Round b t s l n)
    (ht : t < 16) (hfin : ∀ i, b i < ⊤) (hfl : ∀ q, s.next.fl (ix2 q l) = 0#1) : ∃ n', Round b (t + 1) s.next l n' := by
  obtain ⟨q₀, -, hw, hT⟩ := round_sel h ht hfin
  have h4 : n q₀ + 1 ≤ 4 := by
    by_contra hn
    have := hfl q₀
    rw [next_fl_at, hw, h.v1, storedV, dif_neg (by omega)] at this
    simp [IntOp.ori, IntOp.andi, FloatOps.absf] at this
  have N := fun q => next_at s q l _ (hw q)
  have aux : ∀ q (f g : EReal) (k : ℕ), f = storedV b q (n q + (k + 1)) → g = storedV b q (n q + k) →
      (if decide (q = q₀) = true then f else g) = storedV b q ((if q = q₀ then n q + 1 else n q) + k) := by
    intro q f g k hf hg
    by_cases e : q = q₀
    · rw [if_pos (by simpa using e), if_pos e, hf]; congr 1; omega
    · rw [if_neg (by simpa using e), if_neg e, hg]
  have auxG : ∀ q (f g : BitVec 32) (k : ℕ), f = storedG b q (n q + (k + 1)) → g = storedG b q (n q + k) →
      (if decide (q = q₀) = true then f else g) = storedG b q ((if q = q₀ then n q + 1 else n q) + k) := by
    intro q f g k hf hg
    by_cases e : q = q₀
    · rw [if_pos (by simpa using e), if_pos e, hf]; congr 1; omega
    · rw [if_neg (by simpa using e), if_neg e, hg]
  refine ⟨_, fun q => ?_, hT, fun q => ?_, fun q => ?_, fun q => ?_, fun q => ?_, fun q => ?_, fun q => ?_, fun q => ?_, fun q => ?_,
    fun q => ?_, fun q => ?_⟩
  · have := h.le q
    by_cases e : q = q₀
    · subst e; rw [if_pos rfl]; exact h4
    · rw [if_neg e]; exact this
  · rw [(N q).1]; exact aux q _ _ 0 (h.v1 q) (h.v0 q)
  · rw [(N q).2.1]; exact aux q _ _ 1 (h.v2 q) (h.v1 q)
  · rw [(N q).2.2.1]; exact aux q _ _ 2 (h.v3 q) (h.v2 q)
  · rw [(N q).2.2.2.1]; exact aux q _ _ 3 (h.v4 q) (h.v3 q)
  · rw [(N q).2.2.2.2.1]; exact aux q _ _ 4 (by rw [storedV, dif_neg (by omega)]) (h.v4 q)
  · rw [(N q).2.2.2.2.2.1]; exact auxG q _ _ 0 (h.g1 q) (h.g0 q)
  · rw [(N q).2.2.2.2.2.2.1]; exact auxG q _ _ 1 (h.g2 q) (h.g1 q)
  · rw [(N q).2.2.2.2.2.2.2.1]; exact auxG q _ _ 2 (h.g3 q) (h.g2 q)
  · rw [(N q).2.2.2.2.2.2.2.2]; exact auxG q _ _ 3 (h.g4 q) (h.g3 q)
  · rw [show s.next.g4 = s.g4 from rfl, h.g4]
    by_cases e : q = q₀
    · rw [if_pos e]
      have e1 : min (n q + 4) 4 = 4 := by omega
      have e2 : min (n q + 1 + 4) 4 = 4 := by omega
      simp only [storedG, e1, e2]
    · rw [if_neg e]

/-! ## The flag -/

theorem flagged_at (fl : IVec S128x128 1) : extractAt ![0, 0, 0] (flagged fl) inpos_S1x1x1_p0_0_0
    = Finset.univ.fold IntOp.maxsi 2147483648#32 fun x : Fin 128 × Fin 128 => BitVec.setWidth 32 (fl (ix2 x.1 x.2)) := by
  pointwise [flagged]

/-- No chunk is flagged when the fallback does not run. -/
theorem no_flag (d : FVec Ideal S16384x128 .f32) (h : ¬ overflow d = 1#1) (q l : Fin 128) : (headsAt d 15).fl (ix2 q l) = 0#1 := by
  rw [overflow, flagged_at] at h
  obtain ⟨-, hi, -⟩ := SortNet.fold_maxsi_spec (fun x : Fin 128 × Fin 128 => BitVec.setWidth 32 ((headsAt d 15).fl (ix2 x.1 x.2))) Finset.univ 2147483648#32
  have hi := hi (q, l) (Finset.mem_univ _)
  revert hi h
  generalize Finset.univ.fold IntOp.maxsi 2147483648#32 (fun x : Fin 128 × Fin 128 => BitVec.setWidth 32 ((headsAt d 15).fl (ix2 x.1 x.2))) = m
  intro h hi
  rcases BitVec.eq_zero_or_eq_one ((headsAt d 15).fl (ix2 q l)) with e | e
  · exact e
  · exfalso
    beta_reduce at hi
    rw [e] at hi
    apply h
    have h1 : (BitVec.setWidth 32 1#1).toInt = 1 := by decide
    have h2 : (0#32).slt m = true := by
      rw [BitVec.slt_iff_toInt_lt]
      have : (0#32).toInt = 0 := by decide
      omega
    simp [Scalar.cmpi, Scalar.extui, IntOp.cmpi, h2]

theorem no_flag_before (d : FVec Ideal S16384x128 .f32) (q l : Fin 128) (t k : ℕ) (h : (headsAt d (t + k)).fl (ix2 q l) = 0#1) :
    (headsAt d t).fl (ix2 q l) = 0#1 := by
  induction k with
  | zero => exact h
  | succ k ih =>
    apply ih
    rw [show headsAt d (t + (k + 1)) = (headsAt d (t + k)).next from rfl, next_fl_at] at h
    revert h
    generalize (headsAt d (t + k)).fl (ix2 q l) = a
    generalize IntOp.andi _ _ = b
    intro h
    rcases BitVec.eq_zero_or_eq_one a with e | e
    · exact e
    · rw [e] at h
      rcases BitVec.eq_zero_or_eq_one b with e' | e' <;> rw [e'] at h <;> exact absurd h (by decide)

theorem rounds (d : FVec Ideal S16384x128 .f32) (h : ¬ overflow d = 1#1) (l : Fin 128) (hfin : ∀ i, column d l i < ⊤) (t : ℕ)
    (ht : t ≤ 15) : ∃ n, Round (column d l) t (headsAt d t) l n := by
  induction t with
  | zero => exact ⟨_, round_zero d l hfin⟩
  | succ t ih =>
    obtain ⟨n, hn⟩ := ih (by omega)
    refine round_next hn (by omega) hfin fun q => no_flag_before d q l (t + 1) (15 - (t + 1)) ?_
    rw [show t + 1 + (15 - (t + 1)) = 15 from by omega]
    exact no_flag d h q l

theorem fastRows_at (d : FVec Ideal S16384x128 .f32) (t : Fin 16) (l : Fin 128) :
    fastRows d (ix2 t l) = (headsAt d t.val).sel (ix2 0 l) := by
  have ht := t.isLt
  obtain ⟨t, h⟩ := t
  interval_cases t <;> (pointwise [fastRows, stack])

/-- Row `t` of the selected atoms is the atom of rank `t`, whichever way it was found. -/
theorem chosen_eq (d : FVec Ideal S16384x128 .f32) (t : Fin 16) (l : Fin 128) (hfin : ∀ i, column d l i < ⊤) :
    ∃ x, chosen d (ix2 t l) = BitVec.ofNat 32 x.val ∧ rank (column d l) x = t.val := by
  by_cases h : overflow d = 1#1
  · rw [chosen, if_pos h]
    exact slowRows_eq d t l hfin
  · rw [chosen, if_neg h, fastRows_at]
    obtain ⟨n, hn⟩ := rounds d h l hfin t.val (by have := t.isLt; omega)
    obtain ⟨q₀, hx, -, -⟩ := round_sel hn t.isLt hfin
    exact hx

end Cert.KernelIdeal.Select
-- ==== Proof.Counts.lean ====
module

public import proofs.«01_k».proof.Proof.Fast

@[expose] public section

/-! # The counts of a block

The one-hot product counts, for every atom, the selected entries that name it. -/

set_option maxRecDepth 16384

noncomputable section

namespace Cert.KernelIdeal.Select

open Cert.KernelIdeal Cert.KernelIdeal.Gen Cert.Nearest
open Idealize.ShloMosaic

/-- The chunk of an atom, as the kernel divides: truncated, then corrected where the sign differs and something remains. -/
def chunkOf (v : BitVec 32) : BitVec 32 :=
  Scalar.select
    (IntOp.andi
      (IntOp.cmpi .ne (IntOp.subi (BitVec.setWidth 32 (IntOp.cmpi .sgt v 0#32)) (BitVec.setWidth 32 (IntOp.cmpi .slt v 0#32)))
        (Scalar.subi (Scalar.extui (Scalar.cmpi .sgt 128#32 0#32)) (Scalar.extui (Scalar.cmpi .slt 128#32 0#32))))
      (IntOp.cmpi .ne (IntOp.remsi ArithUnit.vector v 128#32) 0#32))
    (IntOp.subi (IntOp.divsi ArithUnit.vector v 128#32) 1#32) (IntOp.divsi ArithUnit.vector v 128#32)

theorem chunkOf_eq (v : BitVec 32) : chunkOf v = Scalar.select
    (IntOp.andi
      (IntOp.cmpi .ne (IntOp.subi (BitVec.setWidth 32 (IntOp.cmpi .sgt v 0#32)) (BitVec.setWidth 32 (IntOp.cmpi .slt v 0#32)))
        (Scalar.subi (Scalar.extui (Scalar.cmpi .sgt 128#32 0#32)) (Scalar.extui (Scalar.cmpi .slt 128#32 0#32))))
      (IntOp.cmpi .ne (IntOp.remsi ArithUnit.vector v 128#32) 0#32))
    (IntOp.subi (IntOp.divsi ArithUnit.vector v 128#32) 1#32) (IntOp.divsi ArithUnit.vector v 128#32) := rfl

theorem chunkOf_atom (q p : Fin 128) : chunkOf (BitVec.ofNat 32 (atom q p).val) = BitVec.ofNat 32 q.val := by
  have hx : (atom q p).val < 16384 := (atom q p).isLt
  have hval := atom_val q p
  revert hx hval
  generalize (atom q p).val = x
  intro hx hval
  have hn : (BitVec.ofNat 32 x).toNat = x := by rw [BitVec.toNat_ofNat]; omega
  have hpos : (0 : ℤ) < (128#32 : BitVec 32).toInt := by decide
  have hdiv : IntOp.divsi ArithUnit.vector (BitVec.ofNat 32 x) 128#32 = BitVec.ofNat 32 q.val := by
    have hm : (BitVec.ofNat 32 x).msb = false := by rw [BitVec.msb_eq_false_iff_two_mul_lt, hn]; omega
    have hk : (128#32 : BitVec 32).msb = false := by decide
    rw [IntOp.divsi, if_neg (IntOp.not_corner_of_pos hpos), BitVec.sdiv_eq, hm, hk]
    apply BitVec.eq_of_toNat_eq
    show (BitVec.ofNat 32 x / 128#32).toNat = _
    rw [BitVec.toNat_udiv, hn, show (BitVec.ofNat 32 q.val).toNat = q.val from by rw [BitVec.toNat_ofNat]; omega]
    show x / 128 = q.val
    omega
  have hrem : IntOp.remsi ArithUnit.vector (BitVec.ofNat 32 x) 128#32 = 0#32 ↔ 128 ∣ x := by
    rw [show (128#32 : BitVec 32) = BitVec.ofNat 32 128 from rfl, IntOp.remsi_eq_zero_iff _ (by rw [hn]; omega) 128 (by omega) (by omega), hn]
  rw [chunkOf, hdiv]
  have hc : IntOp.andi
      (IntOp.cmpi .ne (IntOp.subi (BitVec.setWidth 32 (IntOp.cmpi .sgt (BitVec.ofNat 32 x) 0#32)) (BitVec.setWidth 32 (IntOp.cmpi .slt (BitVec.ofNat 32 x) 0#32)))
        (Scalar.subi (Scalar.extui (Scalar.cmpi .sgt 128#32 0#32)) (Scalar.extui (Scalar.cmpi .slt 128#32 0#32))))
      (IntOp.cmpi .ne (IntOp.remsi ArithUnit.vector (BitVec.ofNat 32 x) 128#32) 0#32) ≠ 1#1 := by
    rw [ne_eq, IntOp.andi_eq_one, not_and]
    intro h1
    rw [IntOp.cmpi_ne, not_not, hrem]
    by_cases h0 : x = 0
    · subst h0; exact dvd_zero _
    · exfalso
      have ht : (BitVec.ofNat 32 x).toInt = x := WordCmp.toInt_ofNat_of_lt (by omega)
      have hz : (0#32 : BitVec 32).toInt = 0 := by decide
      have e1 : IntOp.cmpi .sgt (BitVec.ofNat 32 x) 0#32 = 1#1 := IntOp.cmpi_sgt.mpr (by rw [ht, hz]; omega)
      have e2 : IntOp.cmpi .slt (BitVec.ofNat 32 x) 0#32 = 0#1 := by
        rcases BitVec.eq_zero_or_eq_one (IntOp.cmpi .slt (BitVec.ofNat 32 x) 0#32) with h | h
        · exact h
        · have := IntOp.cmpi_slt.mp h
          rw [ht, hz] at this
          omega
      rw [e1, e2] at h1
      exact absurd h1 (by decide)
  exact if_neg hc

theorem rest_atom (q p : Fin 128) :
    IntOp.subi (BitVec.ofNat 32 (atom q p).val) (IntOp.muli (BitVec.ofNat 32 q.val) 128#32) = BitVec.ofNat 32 p.val := by
  have hx := atom_val q p
  have hq := q.isLt
  have hp := p.isLt
  apply BitVec.eq_of_toNat_eq
  simp only [IntOp.subi, IntOp.muli, BitVec.toNat_sub, BitVec.toNat_mul, BitVec.toNat_ofNat, hx]
  omega

theorem oneHot (k k' : ℕ) (h : k < 2 ^ 30) (h' : k' < 2 ^ 30) :
    (FloatOps.sitofp (F := Ideal) FTy.f32 (BitVec.setWidth 32 (IntOp.cmpi .eq (BitVec.ofNat 32 k) (BitVec.ofNat 32 k'))) : EReal)
      = if k = k' then 1 else 0 := by
  have hi := ofNat_inj h h'
  by_cases e : k = k'
  · have : IntOp.cmpi .eq (BitVec.ofNat 32 k) (BitVec.ofNat 32 k') = 1#1 := IntOp.cmpi_eq.mpr (hi.mpr e)
    rw [this, if_pos e]
    simp [FloatOps.sitofp]
  · have : IntOp.cmpi .eq (BitVec.ofNat 32 k) (BitVec.ofNat 32 k') = 0#1 := by
      rcases BitVec.eq_zero_or_eq_one (IntOp.cmpi .eq (BitVec.ofNat 32 k) (BitVec.ofNat 32 k')) with h | h
      · exact h
      · exact absurd (hi.mp (IntOp.cmpi_eq.mp h)) e
    rw [this, if_neg e]
    simp [FloatOps.sitofp]

/-- The counts of a block: how many of the selected entries name the atom. -/
theorem counts_at (v : Vec Ideal S16x128 .i32) (x : Fin 16 → Fin 128 → Fin 16384) (hv : ∀ t l, v (ix2 t l) = BitVec.ofNat 32 (x t l).val)
    (q p : Fin 128) :
    (k0_pay190 (F := Ideal) v (ix3 0 q p) : EReal) = ∑ t, ∑ l, if x t l = atom q p then (1 : EReal) else 0 := by
  have hq := q.isLt
  have hp := p.isLt
  pointwise [k0_pay190]
  simp only [← chunkOf_eq]
  rw [Fin.sum_univ_tiles 16 128 rfl]
  refine Finset.sum_congr rfl fun t _ => Finset.sum_congr rfl fun l _ => ?_
  have e1 : (⟨(t.val * 128 + l.val) / 128, by omega⟩ : Fin 16) = t := Fin.ext (by simp only; omega)
  have e2 : (⟨(t.val * 128 + l.val) % 128, by omega⟩ : Fin 128) = l := Fin.ext (by simp only; omega)
  simp only [e1, e2, hv]
  obtain ⟨q', p', e⟩ := exists_atom (x t l)
  have hq' := q'.isLt
  have hp' := p'.isLt
  rw [e, chunkOf_atom, rest_atom, oneHot _ _ (by omega) (by omega), oneHot _ _ (by omega) (by omega)]
  simp only [Fin.ext_iff, atom_val]
  by_cases h1 : q'.val = q.val <;> by_cases h2 : p'.val = p.val <;>
    simp only [h1, h2, if_true, if_false, mul_one, mul_zero]
  · rw [if_neg (by omega)]
  · rw [if_neg (by omega)]
  · rw [if_neg (by omega)]

end Cert.KernelIdeal.Select
-- ==== Proof.Order.lean ====
module

public import proofs.«01_k».proof.Proof.Rank
public import Idealize.ShloMosaic.PureOps.Ideal
public import Idealize.ShloMosaic.Lib.SortPrefix
public import Idealize.ShloMosaic.Lib.SortFacts

@[expose] public section

/-! # The sorted order

A stable sort by the distances puts the atom of rank `k` at place `k`; the square root keeps the order. -/

noncomputable section

namespace Cert.Nearest

open Idealize.ShloMosaic

/-- Before, as a decision. -/
def beforeB {n : ℕ} (a : Fin n → EReal) (i j : Fin n) : Bool := by
  classical exact decide (Before a i j)

theorem beforeB_iff {n : ℕ} (a : Fin n → EReal) (i j : Fin n) : beforeB a i j = true ↔ Before a i j := by
  classical
  unfold beforeB
  exact decide_eq_true_iff

theorem beforeB_total {n : ℕ} (a : Fin n → EReal) : StrictTotalBefore (beforeB a) where
  irrefl i := by
    rw [← Bool.not_eq_true, beforeB_iff]
    exact before_irrefl a i
  trans i j k h h' := by
    rw [beforeB_iff] at *
    exact before_trans a h h'
  total i j h := by
    rw [beforeB_iff, beforeB_iff]
    exact before_total a h

/-- A stable insertion sort of positions in order, by the key alone, is the sort by the key and then the position. -/
theorem stableSort_key {n : ℕ} (a : Fin n → EReal) (K : Fin n → Fin n → Bool) (hK : ∀ i j, K i j = true ↔ a i < a j)
    (l : List (Fin n)) (hl : l.Pairwise (· < ·)) : stableSort K l = stableSort (beforeB a) l := by
  induction l with
  | nil => rfl
  | cons x l ih =>
    obtain ⟨hx, hl⟩ := List.pairwise_cons.mp hl
    unfold stableSort
    rw [ih hl]
    refine insertBefore_congr _ _ _ _ fun y hy => ?_
    have hlt := hx y ((perm_stableSort _ _).mem_iff.mp hy)
    rw [Bool.eq_iff_iff, hK, beforeB_iff]
    refine ⟨fun h => .inl h, fun h => ?_⟩
    rcases h with h | ⟨-, h⟩
    · exact h
    · exact absurd hlt (lt_asymm h)

/-- The sort's place `k` holds the atom of rank `k`. -/
theorem rank_sortedFrom {n : ℕ} (a : Fin n → EReal) (K : Fin n → Fin n → Bool) (hK : ∀ i j, K i j = true ↔ a i < a j) (k : Fin n) :
    rank a (sortedFrom K k) = k.val := by
  have e : sortedFrom K = sortedFrom (beforeB a) := by
    have : sortPositions n K = sortPositions n (beforeB a) := stableSort_key a K hK _ (List.pairwise_lt_finRange n)
    have aux : ∀ (l l' : List (Fin n)) (_ : l = l') (hl : n = l.length) (hl' : n = l'.length) (j : Fin n),
        l.get (j.cast hl) = l'.get (j.cast hl') := by
      intro l l' h hl hl' j
      subst h
      rfl
    funext j
    exact aux _ _ this _ _ j
  rw [e]
  have h := (beforeB_total a).sortedFrom_eq_of_prefix le_rfl (fun j : Fin n => nth a j.val j.isLt)
    (fun i j h => by
      have := congrArg (rank a) h
      beta_reduce at this
      rw [rank_nth, rank_nth] at this
      exact Fin.ext this)
    (fun i j hij => by
      rw [← Bool.not_eq_true, beforeB_iff, before_iff_rank_lt, rank_nth, rank_nth]
      exact lt_asymm hij)
    (fun i p hp => absurd (eq_nth a (rank_lt a p) rfl).symm (hp ⟨rank a p, rank_lt a p⟩)) k
  rw [show (k.castLE le_rfl : Fin n) = k from rfl] at h
  rw [h, rank_nth]

/-- Columns that compare alike rank alike. -/
theorem rank_congr {n : ℕ} {a b : Fin n → EReal} (h : ∀ i j, a i < a j ↔ b i < b j) (i : Fin n) : rank a i = rank b i := by
  have he : ∀ i j, a i = a j ↔ b i = b j := fun i j => by
    rw [eq_iff_le_not_lt, eq_iff_le_not_lt, ← not_lt, ← not_lt, h, h]
  have hB : ∀ i j, Before a i j ↔ Before b i j := fun i j => by
    unfold Before
    rw [h, he]
  unfold rank
  rw [show Before a = Before b from funext fun i => funext fun j => propext (hB i j)]

/-- The square root keeps the order of distances that are real and not negative. -/
theorem sqrt_lt_sqrt {x y : ℝ} (hx : 0 ≤ x) (hy : 0 ≤ y) : Ideal.sqrt (x : EReal) < Ideal.sqrt (y : EReal) ↔ (x : EReal) < (y : EReal) := by
  have ex : Ideal.sqrt (x : EReal) = (Real.sqrt x : EReal) := by
    show (if x < 0 then (⊥ : EReal) else (Real.sqrt x : EReal)) = _
    rw [if_neg (not_lt.mpr hx)]
  have ey : Ideal.sqrt (y : EReal) = (Real.sqrt y : EReal) := by
    show (if y < 0 then (⊥ : EReal) else (Real.sqrt y : EReal)) = _
    rw [if_neg (not_lt.mpr hy)]
  rw [ex, ey, EReal.coe_lt_coe_iff, EReal.coe_lt_coe_iff, Real.sqrt_lt_sqrt_iff hx]

end Cert.Nearest
-- ==== Proof.Reference.lean ====
module

public import proofs.«01_k».proof.Proof.Gen.ReferenceIdeal.Run
public import proofs.«01_k».proof.Proof.Order
public import Idealize.ShloMosaic.Lib.Pointwise
public import Idealize.ShloMosaic.Lib.WordCmp
public import Idealize.ShloMosaic.Lib.Affine
public import Idealize.ShloMosaic.Lib.Routing.Ops
public import Idealize.ShloMosaic.Lib.Routing.OpsPair

@[expose] public section

/-! # The reference's term, in steps -/

set_option maxRecDepth 16384

noncomputable section

namespace Cert.ReferenceIdeal.Steps

open Cert.ReferenceIdeal Cert.ReferenceIdeal.Gen Cert.Nearest
open Idealize.ShloMosaic

/-- The distances, a ligand atom's along its row. -/
def refDist (X : FVec Ideal S16384x3 .f32) (Y : FVec Ideal S2048x3 .f32) : FVec Ideal S2048x16384 .f32 :=
  Host.sqrt (maximumf (subf (addf (broadcastInDim S2048x16384 ![0, 1] bcast_S2048x1_S2048x16384_0_1 (broadcastInDim S2048x1 ![0] bcast_S2048_S2048x1_0 (Host.reduceAdd (mulf Y Y) (constant S_ .f32 0x00000000#32) reducesTo_S2048x3_S2048_d1 h_S_))) (broadcastInDim S2048x16384 ![0, 1] bcast_S1x16384_S2048x16384_0_1 (broadcastInDim S1x16384 ![1] bcast_S16384_S1x16384_1 (Host.reduceAdd (mulf X X) (constant S_ .f32 0x00000000#32) reducesTo_S16384x3_S16384_d1 h_S_)))) (mulf (broadcastInDim S2048x16384 ![] bcast_S_S2048x16384 (constant S_ .f32 0x40000000#32)) (Host.dotGeneral dot_S2048x3_S3x16384_S2048x16384_1_0_0_1_n_n none Y (transpose S3x16384 [1, 0] X transposes_S16384x3_S3x16384_1_0)))) (broadcastInDim S2048x16384 ![] bcast_S_S2048x16384 (constant S_ .f32 0x00000000#32)))

/-- The atoms of every row, nearest first. -/
def refSorted (D : FVec Ideal S2048x16384 .f32) : IVec S2048x16384 32 :=
  (Host.sort2 S2048x16384 1 comparator_f32_i32_d1 D (iotaInDim S2048x16384 32 1)).2

/-- The first sixteen of every row, in one list. -/
def refRank (R : IVec S2048x16384 32) : IVec S32768 32 :=
  shapeCast _ (extractStridedSlice S2048x16 ![0, 0] R slices_S2048x16384_S2048x16_0_0) shapeCasts_S2048x16_S32768

/-- The list as the gather reads it. -/
def refIdx (I : IVec S32768 32) : IVec S32768x1 32 :=
  broadcastInDim S32768x1 ![0] bcast_S32768_S32768x1_0 (select (cmpi .slt I (broadcastInDim S32768 ![] bcast_S_S32768 (constantI S_ 32 0#32))) (addi I (broadcastInDim S32768 ![] bcast_S_S32768 (constantI S_ 32 16384#32))) I)

/-- The selected atoms' features. -/
def refTake (J : IVec S32768x1 32) (FT : FVec Ideal S16384x512 .f32) : FVec Ideal S32768x512 .f32 :=
  select (broadcastInDim S32768x512 ![0] bcast_S32768_S32768x512_0 (Host.reduce IntOp.andi (andi (cmpi .sge J (broadcastInDim S32768x1 ![] bcast_S_S32768x1 (constantI S_ 32 0#32))) (cmpi .sle J (broadcastInDim S32768x1 ![0, 1] bcast_S1x1_S32768x1_0_1 (broadcastInDim S1x1 ![1] bcast_S1_S1x1_1 (constantI S1 32 16383#32))))) (constantI S_ 1 1#1) reducesTo_S32768x1_S32768_d1 h_S_)) (Host.gather gather_S16384x512_S32768x1_S32768x512_1_0_n_n_0_1_1512 FT J) (broadcastInDim S32768x512 ![] bcast_S_S32768x512 (constant S_ .f32 0x7FC00000#32))

/-- The row of the list's entries. -/
def refRow : IVec S32768x1 32 :=
  broadcastInDim S32768x1 ![0] bcast_S32768_S32768x1_0 (shapeCast _ (broadcastInDim S2048x16 ![0] bcast_S2048_S2048x16_0 (iotaInDim S2048 32 0)) shapeCasts_S2048x16_S32768)

/-- The features summed by row. -/
def refSum (G : FVec Ideal S32768x512 .f32) : FVec Ideal S2048x512 .f32 :=
  Host.scatterAdd scatter_S2048x512_S32768x1_S32768x512_1_0_0_1 (broadcastInDim S2048x512 ![] bcast_S_S2048x512 (constant S_ .f32 0x00000000#32)) refRow G

/-- The mean of the rows. -/
def refMean (S : FVec Ideal S2048x512 .f32) : FVec Ideal S512 .f32 :=
  Host.divf (Host.reduceAdd S (constant S_ .f32 0x00000000#32) reducesTo_S2048x512_S512_d0 h_S_) (broadcastInDim S512 ![] bcast_S_S512 (constant S_ .f32 0x45000000#32))

/-- The whole result. -/
def refOut (LF : FVec Ideal S2048x512 .f32) (M : FVec Ideal S512 .f32) : FVec Ideal S1024 .f32 :=
  concatenate S1024 0 [⟨S512, (Host.reduceAdd LF (constant S_ .f32 0x00000000#32) reducesTo_S2048x512_S512_d0 h_S_)⟩, ⟨S512, M⟩] concatenates_S512_S512_S1024_d0

/-- The reference, step by step. -/
def refAll (X : FVec Ideal S16384x3 .f32) (FT : FVec Ideal S16384x512 .f32) (Y : FVec Ideal S2048x3 .f32) (LF : FVec Ideal S2048x512 .f32) :
    FVec Ideal S1024 .f32 :=
  refOut LF (refMean (refSum (refTake (refIdx (refRank (refSorted (refDist X Y)))) FT)))

theorem res_eq (m : (ℓ : Loc nD τ sig) → Buf (Elt Ideal) ℓ) (c : Dev nD) :
    Value.res_main_v31 m c = refAll (m ((c.tc : Thread nD τ).loc main_arg0)) (m ((c.tc : Thread nD τ).loc main_arg1))
      (m ((c.tc : Thread nD τ).loc main_arg2)) (m ((c.tc : Thread nD τ).loc main_arg3)) := by
  unfold Value.res_main_v31
  rfl

/-! ## The distances -/

/-- The squared distance of ligand atom `r` and protein atom `i`. -/
def sqDist (X : FVec Ideal S16384x3 .f32) (Y : FVec Ideal S2048x3 .f32) (r : Fin 2048) (i : Fin 16384) : EReal :=
  max (∑ x : Fin 3, Y (ix2 r x) * Y (ix2 r x) + ∑ x : Fin 3, X (ix2 i x) * X (ix2 i x)
    - Ideal.ofBits .f32 1073741824#32 * ∑ x : Fin 3, Y (ix2 r x) * X (ix2 i x)) 0

/-- The word of the reference's factor is two. -/
theorem two_bits : Ideal.ofBits .f32 1073741824#32 = ((2 : ℝ) : EReal) := by
  simp [Ideal.ofBits, Ideal.ieee, -EReal.coe_mul]
  norm_num

/-- A reference distance is the root of the squared distance. -/
theorem refDist_at (X : FVec Ideal S16384x3 .f32) (Y : FVec Ideal S2048x3 .f32) (r : Fin 2048) (i : Fin 16384) :
    refDist X Y (ix2 r i) = Ideal.sqrt (sqDist X Y r i) := by
  pointwise [refDist]
  rfl

/-- Between real positions the squared distance is real and not negative. -/
theorem sqDist_real (X : FVec Ideal S16384x3 .f32) (Y : FVec Ideal S2048x3 .f32) (hX : ∀ i x, ∃ v : ℝ, X (ix2 i x) = (v : EReal))
    (hY : ∀ r x, ∃ v : ℝ, Y (ix2 r x) = (v : EReal)) (r : Fin 2048) (i : Fin 16384) : ∃ v : ℝ, 0 ≤ v ∧ sqDist X Y r i = (v : EReal) := by
  obtain ⟨x, hx⟩ := Classical.axiomOfChoice (hX i)
  obtain ⟨y, hy⟩ := Classical.axiomOfChoice (hY r)
  refine ⟨max (∑ k : Fin 3, y k * y k + ∑ k : Fin 3, x k * x k - 2 * ∑ k : Fin 3, y k * x k) 0, le_max_right _ _, ?_⟩
  rw [sqDist, two_bits]
  simp only [hx, hy, Fin.sum_univ_three]
  rw [EReal.coe_strictMono.monotone.map_max]
  push_cast
  rfl

/-! ## The order -/

/-- The comparator compares the keys. -/
theorem comparator_eq (l r : EReal × BitVec 32) : (comparator_f32_i32_d1 (F := Ideal) l r == 1#1) = true ↔ l.1 < r.1 := by
  have z : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := by
    intro x
    have h0 : FloatOps.cmpf (F := Ideal) (φ := .f32) .une x x = 0#1 := by
      show BitVec.ofBool (decide (x ≠ x)) = 0#1
      rw [decide_eq_false (fun h => h rfl)]
      rfl
    rw [h0, Scalar.select, if_neg (by decide), Scalar.select]
    by_cases h : x = FloatOps.ofBits (F := Ideal) .f32 0x00000000#32
    · rw [← h, ite_self]
    · refine if_neg ?_
      show BitVec.ofBool (decide (x = FloatOps.ofBits (F := Ideal) .f32 0x00000000#32)) ≠ 1#1
      rw [decide_eq_false h]
      decide
  unfold comparator_f32_i32_d1
  dsimp only
  rw [z, z]
  show (BitVec.ofBool (decide (l.1 < r.1)) == 1#1) = true ↔ _
  by_cases h : l.1 < r.1
  · rw [decide_eq_true h]
    exact ⟨fun _ => h, fun _ => rfl⟩
  · rw [decide_eq_false h]
    exact ⟨fun h' => absurd h' (by decide), fun h' => absurd h' h⟩

/-- The sort's second operand numbers the atoms. -/
theorem read_iota (r : Fin 2048) (k : Fin 16384) : iotaInDim S2048x16384 32 1 (ix2 r k) = BitVec.ofNat 32 k.val := by
  pointwise

/-- Along a row the second coordinate moves. -/
theorem along_ix2 (r : Fin 2048) (k k' : Fin 16384) :
    (ix2 r k : S2048x16384.Idx).along (1 : Fin 2) k' = ix2 r k' := by
  funext a
  fin_cases a <;> rfl

/-- Place `k` of a sorted row holds the atom of rank `k` in that row. -/

theorem refSorted_at (D : FVec Ideal S2048x16384 .f32) (r : Fin 2048) (k : Fin 16384) :
    ∃ x : Fin 16384, refSorted D (ix2 r k) = BitVec.ofNat 32 x.val ∧ rank (fun i => D (ix2 r i)) x = k.val := by
  let K : Fin 16384 → Fin 16384 → Bool := fun a b => comparator_f32_i32_d1 (F := Ideal)
    (D (ix2 r a), iotaInDim S2048x16384 32 1 (ix2 r a)) (D (ix2 r b), iotaInDim S2048x16384 32 1 (ix2 r b)) == 1#1
  refine ⟨sortedFrom K k, ?_, rank_sortedFrom _ K (fun i j => comparator_eq _ _) k⟩
  unfold refSorted Host.sort2
  rw [dif_pos (by decide)]
  dsimp only
  have h : ∀ K' : Fin 16384 → Fin 16384 → Bool, K' = K →
      iotaInDim S2048x16384 32 1 ((ix2 r k : S2048x16384.Idx).along (1 : Fin 2) (sortedFrom K' k)) = BitVec.ofNat 32 (sortedFrom K k).val := by
    rintro _ rfl
    exact (congrArg (iotaInDim S2048x16384 32 1) (along_ix2 r k (sortedFrom K k))).trans (read_iota r _)
  refine h _ (funext fun a => funext fun b => ?_)
  have f : ∀ p q p' q' : S2048x16384.Idx, p = p' → q = q' →
      (comparator_f32_i32_d1 (F := Ideal) (D p, iotaInDim S2048x16384 32 1 p) (D q, iotaInDim S2048x16384 32 1 q) == 1#1)
        = (comparator_f32_i32_d1 (F := Ideal) (D p', iotaInDim S2048x16384 32 1 p') (D q', iotaInDim S2048x16384 32 1 q') == 1#1) := by
    rintro p q _ _ rfl rfl
    rfl
  exact f _ _ _ _ (along_ix2 r k a) (along_ix2 r k b)

/-! ## The gather -/

/-- The gather's index of list place `e` is the atom at place `e % 16` of row `e / 16`. -/
theorem refIdx_at (R : IVec S2048x16384 32) (e : Fin 32768) (x : Fin 16384)
    (h : R (ix2 ⟨e.val / 16, by omega⟩ ⟨e.val % 16, by omega⟩) = BitVec.ofNat 32 x.val) :
    refIdx (refRank R) (ix2 e 0) = BitVec.ofNat 32 x.val := by
  have hx := x.isLt
  have ht : (BitVec.ofNat 32 x.val).toInt = x.val := WordCmp.toInt_ofNat_of_lt (by omega)
  pointwise [refRank, refIdx]
  rw [h, Scalar.select]
  have hz : (0#32 : BitVec 32).toInt = 0 := by decide
  exact if_neg fun h => by
    have := IntOp.cmpi_slt.mp h
    rw [ht, hz] at this
    omega

/-- An index in range takes the features of its atom. -/
theorem refTake_at (J : IVec S32768x1 32) (FT : FVec Ideal S16384x512 .f32) (e : Fin 32768) (f : Fin 512) (x : Fin 16384)
    (h : J (ix2 e 0) = BitVec.ofNat 32 x.val) : refTake J FT (ix2 e f) = FT (ix2 x f) := by
  have hx := x.isLt
  have ht : (BitVec.ofNat 32 x.val).toInt = x.val := WordCmp.toInt_ofNat_of_lt (by omega)
  have hg : Host.gather gather_S16384x512_S32768x1_S32768x512_1_0_n_n_0_1_1512 FT J (ix2 e f) = FT (ix2 x f) :=
    Routing.gather_row gather_S16384x512_S32768x1_S32768x512_1_0_n_n_0_1_1512 rfl rfl rfl rfl rfl FT J e f x h (by norm_num)
  pointwise [refTake]
  have hu : (Finset.univ : Finset (Fin 1)) = {0} := by decide
  rw [hg, hu, Finset.fold_singleton, h]
  have hz : (0#32 : BitVec 32).toInt = 0 := by decide
  have hm : (16383#32 : BitVec 32).toInt = 16383 := by decide
  have h1 : IntOp.cmpi .sge (BitVec.ofNat 32 x.val) 0#32 = 1#1 := IntOp.cmpi_sge.mpr (by rw [ht, hz]; omega)
  have h2 : IntOp.cmpi .sle (BitVec.ofNat 32 x.val) 16383#32 = 1#1 := IntOp.cmpi_sle.mpr (by rw [ht, hm]; omega)
  rw [h1, h2]
  exact if_pos (by decide)

/-! ## The sum by rows -/

/-- List place `e` is added into row `e / 16`. -/
theorem lands (e : Fin 32768) (f' : Fin 512) (r : Fin 2048) (f : Fin 512) :
    scatter_S2048x512_S32768x1_S32768x512_1_0_0_1.resultIdx? (ix2 e f') refRow = some (ix2 r f) ↔ e.val / 16 = r.val ∧ f' = f := by
  have hrow : refRow (ix2 e 0) = BitVec.ofNat 32 (e.val / 16) := by
    pointwise [refRow]
  have ht : (BitVec.ofNat 32 (e.val / 16)).toInt = (e.val / 16 : ℕ) := WordCmp.toInt_ofNat_of_lt (by omega)
  have s0 : scatter_S2048x512_S32768x1_S32768x512_1_0_0_1.start (ix2 e f') refRow 0 = ((e.val / 16 : ℕ) : ℤ) := by
    rw [← ht, ← hrow]
    unfold ScatterDims.start
    rw [dif_pos (by decide)]
    congr 2
    funext b
    fin_cases b <;> rfl
  have s1 : scatter_S2048x512_S32768x1_S32768x512_1_0_0_1.start (ix2 e f') refRow 1 = 0 := by
    unfold ScatterDims.start
    rw [dif_neg (by decide)]
  have w0 : scatter_S2048x512_S32768x1_S32768x512_1_0_0_1.window (ix2 e f') 0 = 0 := by
    unfold ScatterDims.window
    rw [dif_neg (by decide)]
  have w1 : scatter_S2048x512_S32768x1_S32768x512_1_0_0_1.window (ix2 e f') 1 = f'.val := by
    unfold ScatterDims.window
    rw [dif_pos (by decide)]
    rfl
  have := Routing.resultIdx?_ix2 scatter_S2048x512_S32768x1_S32768x512_1_0_0_1 (ix2 e f') refRow r f
  refine this.trans ?_
  rw [s0, s1, w0, w1, Fin.ext_iff]
  omega

/-- A row's sum is over its places of the list. -/
theorem refSum_at (G : FVec Ideal S32768x512 .f32) (r : Fin 2048) (f : Fin 512) :
    refSum G (ix2 r f) = ∑ e : Fin 32768, if e.val / 16 = r.val then G (ix2 e f) else 0 := by
  have hz : broadcastInDim S2048x512 ![] bcast_S_S2048x512 (constant (F := Ideal) S_ .f32 0x00000000#32) (ix2 r f) = (0 : EReal) := by
    pointwise
  unfold refSum
  show Ideal.hostScatterAdd scatter_S2048x512_S32768x1_S32768x512_1_0_0_1 _ refRow G (ix2 r f) = _
  unfold Ideal.hostScatterAdd
  rw [hz, zero_add, Finset.sum_filter, sum_idx2]
  refine Finset.sum_congr rfl fun e _ => ?_
  simp only [lands]
  by_cases h : e.val / 16 = r.val
  · simp only [h, true_and, if_true]
    rw [Finset.sum_ite_eq' Finset.univ f, if_pos (Finset.mem_univ _)]
  · simp only [h, false_and, if_false, Finset.sum_const_zero]

/-- The mean adds up the rows and divides by their number. -/
theorem refMean_sum (S : FVec Ideal S2048x512 .f32) (f : Fin 512) :
    refMean S (ix1 f) = Ideal.div (∑ r : Fin 2048, S (ix2 r f)) (Ideal.ofBits .f32 1157627904#32) := by
  pointwise [refMean]

/-- The mean is over every selected atom, whatever its row. -/
theorem refMean_at (G : FVec Ideal S32768x512 .f32) (f : Fin 512) :
    refMean (refSum G) (ix1 f) = Ideal.div (∑ e : Fin 32768, G (ix2 e f)) (Ideal.ofBits .f32 1157627904#32) := by
  have key : ∑ r : Fin 2048, refSum G (ix2 r f) = ∑ e : Fin 32768, G (ix2 e f) := by
    simp only [refSum_at]
    rw [Finset.sum_comm]
    refine Finset.sum_congr rfl fun e _ => ?_
    rw [Finset.sum_eq_single (⟨e.val / 16, by omega⟩ : Fin 2048)]
    · rw [if_pos rfl]
    · intro r _ hr
      rw [if_neg fun h => hr (Fin.ext h.symm)]
    · intro h
      exact absurd (Finset.mem_univ _) h
  rw [refMean_sum, key]

/-- The result is the ligand sum, then the mean. -/
theorem refOut_at (S : FVec Ideal S2048x512 .f32) (M : FVec Ideal S512 .f32) (f : Fin 1024) :
    refOut S M (ix1 f) = if h : f.val < 512 then ∑ x, S (ix2 x ⟨f.val, h⟩) else M (ix1 ⟨f.val - 512, by omega⟩) := by
  pointwise [refOut]

end Cert.ReferenceIdeal.Steps
-- ==== Proof.RefValue.lean ====
module

public import proofs.«01_k».proof.Proof.Reference
public import Idealize.ShloMosaic.Lib.Pointwise

@[expose] public section

/-! # What the reference computes -/

set_option maxRecDepth 16384

noncomputable section

namespace Cert.ReferenceIdeal.Steps

open Cert.ReferenceIdeal Cert.ReferenceIdeal.Gen Cert.Nearest
open Idealize.ShloMosaic

/-- The protein atom of rank `t` by distance from ligand atom `r`. -/
def nearest (X : FVec Ideal S16384x3 .f32) (Y : FVec Ideal S2048x3 .f32) (r : Fin 2048) (t : Fin 16) : Fin 16384 :=
  nth (sqDist X Y r) t.val (by omega)

/-- A row of the reference's distances orders the atoms as their squared distances do. -/
theorem refDist_rank (X : FVec Ideal S16384x3 .f32) (Y : FVec Ideal S2048x3 .f32) (hX : ∀ i x, ∃ v : ℝ, X (ix2 i x) = (v : EReal))
    (hY : ∀ r x, ∃ v : ℝ, Y (ix2 r x) = (v : EReal)) (r : Fin 2048) (i : Fin 16384) :
    rank (fun i => refDist X Y (ix2 r i)) i = rank (sqDist X Y r) i := by
  refine rank_congr (fun i j => ?_) i
  obtain ⟨u, hu, eu⟩ := sqDist_real X Y hX hY r i
  obtain ⟨v, hv, ev⟩ := sqDist_real X Y hX hY r j
  beta_reduce
  rw [refDist_at, refDist_at, eu, ev]
  exact sqrt_lt_sqrt hu hv

/-- The selected features of list place `e`: those of the atom of rank `e % 16` for ligand atom `e / 16`. -/
theorem refTake_nearest (X : FVec Ideal S16384x3 .f32) (Y : FVec Ideal S2048x3 .f32) (FT : FVec Ideal S16384x512 .f32)
    (hX : ∀ i x, ∃ v : ℝ, X (ix2 i x) = (v : EReal)) (hY : ∀ r x, ∃ v : ℝ, Y (ix2 r x) = (v : EReal)) (e : Fin 32768) (f : Fin 512) :
    refTake (refIdx (refRank (refSorted (refDist X Y)))) FT (ix2 e f)
      = FT (ix2 (nearest X Y ⟨e.val / 16, by omega⟩ ⟨e.val % 16, by omega⟩) f) := by
  obtain ⟨x, hx, hr⟩ := refSorted_at (refDist X Y) ⟨e.val / 16, by omega⟩ ⟨e.val % 16, by omega⟩
  rw [refDist_rank X Y hX hY] at hr
  rw [refTake_at _ FT e f x (refIdx_at _ e x hx)]
  rw [eq_nth (sqDist X Y _) (by omega) hr]
  rfl

/-- The reference's result: the ligand features summed over the ligand atoms, then the features of every ligand atom's
sixteen nearest protein atoms summed and divided by the number of ligand atoms. -/
theorem refAll_at (X : FVec Ideal S16384x3 .f32) (Y : FVec Ideal S2048x3 .f32) (FT : FVec Ideal S16384x512 .f32) (LF : FVec Ideal S2048x512 .f32)
    (hX : ∀ i x, ∃ v : ℝ, X (ix2 i x) = (v : EReal)) (hY : ∀ r x, ∃ v : ℝ, Y (ix2 r x) = (v : EReal)) (f : Fin 1024) :
    refAll X FT Y LF (ix1 f) = if h : f.val < 512 then ∑ r : Fin 2048, LF (ix2 r ⟨f.val, h⟩)
      else Ideal.div (∑ r : Fin 2048, ∑ t : Fin 16, FT (ix2 (nearest X Y r t) ⟨f.val - 512, by omega⟩)) (Ideal.ofBits .f32 1157627904#32) := by
  unfold refAll
  rw [refOut_at]
  split
  · rfl
  · rw [refMean_at]
    have key : ∀ f' : Fin 512, ∑ e : Fin 32768, refTake (refIdx (refRank (refSorted (refDist X Y)))) FT (ix2 e f')
        = ∑ r : Fin 2048, ∑ t : Fin 16, FT (ix2 (nearest X Y r t) f') := by
      intro f'
      simp only [refTake_nearest X Y FT hX hY]
      rw [Fin.sum_univ_tiles 2048 16 rfl]
      refine Finset.sum_congr rfl fun r _ => Finset.sum_congr rfl fun t _ => ?_
      have h1 : (r.val * 16 + t.val) / 16 = r.val := by omega
      have h2 : (r.val * 16 + t.val) % 16 = t.val := by omega
      simp only [h1, h2]
    rw [key]

end Cert.ReferenceIdeal.Steps
-- ==== Proof.Equation.lean ====
module

public import proofs.«01_k».proof.Proof.Calls
public import proofs.«01_k».proof.Proof.Fast
public import proofs.«01_k».proof.Proof.Counts
public import proofs.«01_k».proof.Proof.RefValue

@[expose] public section

/-! # What the kernel computes -/

set_option maxRecDepth 16384

noncomputable section

namespace Cert.KernelIdeal.Select

open Cert.KernelIdeal Cert.KernelIdeal.Gen Cert.Nearest
open Idealize.ShloMosaic Idealize.ShloMosaic.TcCoe
open Cert.ReferenceIdeal.Steps (sqDist nearest)

/-! ## Sums of counts -/

/-- A factor distributes over a sum of terms that are not negative. -/
theorem sum_mul_of_nonneg {A : Type} (S : Finset A) (w : A → EReal) (hw : ∀ a, 0 ≤ w a) (z : EReal) :
    (∑ a ∈ S, w a) * z = ∑ a ∈ S, w a * z := by
  classical
  induction S using Finset.induction_on with
  | empty => simp
  | insert a S ha ih =>
    rw [Finset.sum_insert ha, Finset.sum_insert ha, EReal.right_distrib_of_nonneg (hw a) (Finset.sum_nonneg fun b _ => hw b), ih]

/-- Weighing every item by how often it is picked is adding up the picks. -/
theorem sum_picks {A : Type} [Fintype A] {n : ℕ} (g : A → Fin n) (w : Fin n → EReal) :
    ∑ i : Fin n, (∑ a : A, if g a = i then (1 : EReal) else 0) * w i = ∑ a : A, w (g a) := by
  have h : ∀ i, (∑ a : A, if g a = i then (1 : EReal) else 0) * w i = ∑ a : A, if g a = i then w i else 0 := by
    intro i
    rw [sum_mul_of_nonneg _ _ fun a => by split <;> simp]
    refine Finset.sum_congr rfl fun a _ => ?_
    split
    · rw [one_mul]
    · rw [zero_mul]
  simp only [h]
  rw [Finset.sum_comm]
  refine Finset.sum_congr rfl fun a _ => ?_
  rw [Finset.sum_ite_eq, if_pos (Finset.mem_univ _)]

/-- A sum over eight columns of which the last five are zero. -/
theorem sum_padded (a : Fin 8 → EReal) (b : Fin 3 → EReal) (h : ∀ x, a x = if hx : x.val < 3 then b ⟨x.val, hx⟩ else 0) :
    ∑ x, a x = ∑ x, b x := by
  simp [h, Fin.sum_univ_eight, Fin.sum_univ_three]

/-! ## One ligand block -/

/-- The selection body's distances. -/
theorem dist_at (v : FVec Ideal S8x128 .f32) (w : FVec Ideal S16384x8 .f32) (i : Fin 16384) (l : Fin 128) :
    dist (F := Ideal) v w (ix2 i l) = max (∑ x : Fin 8, v (ix2 x l) * v (ix2 x l) + ∑ x : Fin 8, w (ix2 i x) * w (ix2 i x)
      - Ideal.ofBits .f32 1073741824#32 * ∑ x : Fin 8, w (ix2 i x) * v (ix2 x l)) (0 : EReal) := by
  pointwise [dist]

/-- A block's distances are the squared distances of its ligand atoms. -/
theorem dist_eq (X : FVec Ideal S16384x3 .f32) (Y : FVec Ideal S2048x3 .f32) (v : FVec Ideal S8x128 .f32) (w : FVec Ideal S16384x8 .f32)
    (r : Fin 2048) (l : Fin 128) (hv : ∀ x, v (ix2 x l) = padY Y (ix2 x r)) (hw : ∀ i x, w (ix2 i x) = padX X (ix2 i x)) :
    column (dist (F := Ideal) v w) l = sqDist X Y r := by
  funext i
  unfold column
  rw [dist_at]
  simp only [hv, hw, padX_at, padY_at]
  unfold sqDist
  rw [sum_padded _ (fun x => Y (ix2 r x) * Y (ix2 r x)) fun x => by split <;> simp,
    sum_padded _ (fun x => X (ix2 i x) * X (ix2 i x)) fun x => by split <;> simp,
    sum_padded _ (fun x => Y (ix2 r x) * X (ix2 i x)) fun x => by split <;> simp [mul_comm]]

/-- The block's chosen atoms are the nearest ones. -/
theorem chosen_nearest (X : FVec Ideal S16384x3 .f32) (Y : FVec Ideal S2048x3 .f32) (hX : ∀ i x, ∃ u : ℝ, X (ix2 i x) = (u : EReal))
    (hY : ∀ r x, ∃ u : ℝ, Y (ix2 r x) = (u : EReal)) (v : FVec Ideal S8x128 .f32) (w : FVec Ideal S16384x8 .f32)
    (r : Fin 2048) (l : Fin 128) (hv : ∀ x, v (ix2 x l) = padY Y (ix2 x r)) (hw : ∀ i x, w (ix2 i x) = padX X (ix2 i x)) (t : Fin 16) :
    chosen (F := Ideal) (dist (F := Ideal) v w) (ix2 t l) = BitVec.ofNat 32 (nearest X Y r t).val := by
  have hd := dist_eq X Y v w r l hv hw
  obtain ⟨x, hx, hr⟩ := chosen_eq (dist (F := Ideal) v w) t l fun i => by
    rw [hd]
    obtain ⟨u, -, hu⟩ := Cert.ReferenceIdeal.Steps.sqDist_real X Y hX hY r i
    rw [hu]
    exact EReal.coe_lt_top u
  rw [hd] at hr
  rw [hx, eq_nth (sqDist X Y r) (by omega) hr]
  rfl

/-- A block's ligand features, added up. -/
theorem pay_sums (v : FVec Ideal S128x512 .f32) (f : Fin 512) : k0_pay1 (F := Ideal) v (ix3 0 0 f) = ∑ x : Fin 128, v (ix2 x f) := by
  pointwise [k0_pay1]

/-- The kernel's scale. -/
theorem first_scale : Ideal.ofBits .f32 973078528#32 = ((1 / 2048 : ℝ) : EReal) := by
  simp [Ideal.ofBits, Ideal.ieee, -EReal.coe_mul]
  norm_num

/-- The reference's divisor. -/
theorem second_scale : Ideal.ofBits .f32 1157627904#32 = ((2048 : ℝ) : EReal) := by
  simp [Ideal.ofBits, Ideal.ieee, -EReal.coe_mul]
  norm_num

/-- Multiplying by the kernel's scale is dividing by the number of ligand atoms. -/
theorem scale_eq (z : EReal) : z * Ideal.ofBits .f32 973078528#32 = Ideal.div z (Ideal.ofBits .f32 1157627904#32) := by
  rw [first_scale, second_scale, Ideal.div_coe (by norm_num)]

/-! ## The whole kernel -/

section
variable (X : FVec Ideal S16384x3 .f32) (FT : FVec Ideal S16384x512 .f32) (Y : FVec Ideal S2048x3 .f32) (LF : FVec Ideal S2048x512 .f32)
variable (hX : ∀ i x, ∃ u : ℝ, X (ix2 i x) = (u : EReal)) (hY : ∀ r x, ∃ u : ℝ, Y (ix2 r x) = (u : EReal))

/-- The ligand atom at place `l` of block `b`. -/
abbrev lig (b : Fin 16) (l : Fin 128) : Fin 2048 := ⟨b.val * 128 + l.val, by omega⟩

include hX hY in
/-- A block's counts say how often each protein atom is among the nearest of the block's ligand atoms. -/
theorem block_counts (v : FVec Ideal S8x128 .f32) (w : FVec Ideal S16384x8 .f32) (b : Fin 16)
    (hv : ∀ x l, v (ix2 x l) = padY Y (ix2 x (lig b l))) (hw : ∀ i x, w (ix2 i x) = padX X (ix2 i x)) (q p : Fin 128) :
    k0_pay190 (F := Ideal) (chosen (F := Ideal) (dist (F := Ideal) v w)) (ix3 0 q p)
      = ∑ t : Fin 16, ∑ l : Fin 128, if nearest X Y (lig b l) t = atom q p then (1 : EReal) else 0 :=
  counts_at _ (fun t l => nearest X Y (lig b l) t) (fun t l => chosen_nearest X Y hX hY v w (lig b l) l (fun x => hv x l) hw t) q p

/-- Weighted by such counts, the protein atoms' features add up to the features of every ligand atom's nearest ones. -/
theorem weighted (N : FVec Ideal S16x16384 .f32)
    (hN : ∀ b i, N (ix2 b i) = ∑ t : Fin 16, ∑ l : Fin 128, if nearest X Y (lig b l) t = i then (1 : EReal) else 0) (f : Fin 512) :
    ∑ s : Fin 16, ∑ x : Fin 1024, (∑ b : Fin 16, N (ix2 b ⟨s.val * 1024 + x.val, by omega⟩)) * FT (ix2 ⟨s.val * 1024 + x.val, by omega⟩ f)
      = ∑ r : Fin 2048, ∑ t : Fin 16, FT (ix2 (nearest X Y r t) f) := by
  have h1 := Fin.sum_univ_tiles (N := 16384) 16 1024 rfl fun i : Fin 16384 => (∑ b : Fin 16, N (ix2 b i) : EReal) * FT (ix2 i f)
  refine h1.symm.trans ?_
  have h2 := sum_picks (A := Fin 16 × Fin 16 × Fin 128) (fun a => nearest X Y (lig a.1 a.2.2) a.2.1) fun i => FT (ix2 i f)
  simp only [Fintype.sum_prod_type] at h2
  simp only [hN]
  refine h2.trans ?_
  rw [Fin.sum_univ_tiles 16 128 rfl]
  exact Finset.sum_congr rfl fun b _ => Finset.sum_comm

end

variable (m : (ℓ : Loc nD τ sig) → Buf (Elt Ideal) ℓ) (c : Dev nD)

/-- The first call's counts. -/
theorem counts_held (X : FVec Ideal S16384x3 .f32) (Y : FVec Ideal S2048x3 .f32) (eX : m ((c : Thread nD τ).loc main_arg0) = X) (eY : m ((c : Thread nD τ).loc main_arg2) = Y)
    (hX : ∀ i x, ∃ u : ℝ, X (ix2 i x) = (u : EReal)) (hY : ∀ r x, ∃ u : ℝ, Y (ix2 r x) = (u : EReal)) (b : Fin 16) (q p : Fin 128) :
    allCounts (entry0 m) c (ix3 b q p) = ∑ t : Fin 16, ∑ l : Fin 128, if nearest X Y (lig b l) t = atom q p then (1 : EReal) else 0 := by
  refine block_counts X Y hX hY _ _ b (fun x l => ?_) (fun i x => ?_) q p
  · refine (blk0_0 (entry0 m) c b x l).trans ?_
    rw [← eY]
    exact congrFun (held_v2 m c) _
  · refine (blk0_1 (entry0 m) c b i x).trans ?_
    rw [← eX]
    exact congrFun (held_v0 m c) _

/-- The first call's feature sums. -/
theorem sums_held (LF : FVec Ideal S2048x512 .f32) (eL : m ((c : Thread nD τ).loc main_arg3) = LF) (b : Fin 16) (f : Fin 512) :
    allSums (entry0 m) c (ix3 b 0 f) = ∑ l : Fin 128, LF (ix2 (lig b l) f) := by
  refine (pay_sums _ f).trans (Finset.sum_congr rfl fun l _ => ?_)
  refine (blk0_2 (entry0 m) c b l f).trans ?_
  rw [← eL]
  exact congrFun (V1_of m c main_arg3 (by decide)) _

/-- The second call's sum. -/
theorem total_held (X : FVec Ideal S16384x3 .f32) (Y : FVec Ideal S2048x3 .f32) (FT : FVec Ideal S16384x512 .f32)
    (eX : m ((c : Thread nD τ).loc main_arg0) = X) (eF : m ((c : Thread nD τ).loc main_arg1) = FT) (eY : m ((c : Thread nD τ).loc main_arg2) = Y)
    (hX : ∀ i x, ∃ u : ℝ, X (ix2 i x) = (u : EReal)) (hY : ∀ r x, ∃ u : ℝ, Y (ix2 r x) = (u : EReal)) (h) (f : Fin 512) :
    acc (entry1 m) c 15 h (ix1 f) = ∑ r : Fin 2048, ∑ t : Fin 16, FT (ix2 (nearest X Y r t) f) := by
  have hN : ∀ b i, rowsOf (allCounts (entry0 m) c) (ix2 b i) = ∑ t : Fin 16, ∑ l : Fin 128, if nearest X Y (lig b l) t = i then (1 : EReal) else 0 := by
    intro b i
    rw [rowsOf_at, counts_held m c X Y eX eY hX hY]
    have hi : atom ⟨i.val / 128, by omega⟩ ⟨i.val % 128, by omega⟩ = i := Fin.ext (by rw [atom_val]; simp only; omega)
    rw [hi]
  have e4 : V3 m (outs0 m) c main_call0_v4 = rowsOf (allCounts (entry0 m) c) := by
    rw [held_v4, outs0_counts, arr0_3]
  have e1 : V3 m (outs0 m) c main_arg1 = FT := by
    rw [V3_of m (outs0 m) c main_arg1 (by decide), V2_of m (outs0 m) c main_arg1 (by decide), V1_of m c main_arg1 (by decide)]
    exact eF
  rw [acc_sum]
  refine Eq.trans (Finset.sum_congr rfl fun s _ => ?_) (weighted X FT Y _ hN f)
  refine (pay1_at _ _ f).trans (Finset.sum_congr rfl fun x _ => ?_)
  refine congr_arg₂ (fun a b : EReal => a * b) (Finset.sum_congr rfl fun b _ => ?_) ?_
  · exact (blk1_0 (entry1 m) c s b x).trans (congrFun e4 _)
  · exact (blk1_1 (entry1 m) c s x f).trans (congrFun e1 _)

/-- The kernel's result. -/
theorem result_at (X : FVec Ideal S16384x3 .f32) (Y : FVec Ideal S2048x3 .f32) (FT : FVec Ideal S16384x512 .f32) (LF : FVec Ideal S2048x512 .f32)
    (eX : m ((c : Thread nD τ).loc main_arg0) = X) (eF : m ((c : Thread nD τ).loc main_arg1) = FT) (eY : m ((c : Thread nD τ).loc main_arg2) = Y)
    (eL : m ((c : Thread nD τ).loc main_arg3) = LF)
    (hX : ∀ i x, ∃ u : ℝ, X (ix2 i x) = (u : EReal)) (hY : ∀ r x, ∃ u : ℝ, Y (ix2 r x) = (u : EReal)) :
    V5 m (outs m) c main_v0 = Cert.ReferenceIdeal.Steps.refAll X FT Y LF := by
  rw [held_res, held_v6, outs_sums, outs0_sums, outs_total, arr0_4, arr1_2]
  refine funext fun j => ?_
  obtain ⟨f, rfl⟩ : ∃ f : Fin 1024, j = ix1 f := ⟨j 0, (ix1_eta j).symm⟩
  refine (resOf_at _ _ f).trans (Eq.trans ?_ (Cert.ReferenceIdeal.Steps.refAll_at X Y FT LF hX hY f).symm)
  split
  · rw [sumsOf_at, Fin.sum_univ_tiles 16 128 rfl]
    exact Finset.sum_congr rfl fun b _ => sums_held m c LF eL b _
  · rw [total_held m c X Y FT eX eF eY hX hY, scale_eq]

end Cert.KernelIdeal.Select
-- ==== Proof.Finite.lean ====
module

public import proofs.«01_k».proof.Pre_positions_finite
public import Idealize.ShloMosaic.Lib.Pointwise
public import Idealize.ShloMosaic.Lib.ReduceAll

@[expose] public section

/-! # What the precondition says -/

set_option maxRecDepth 16384

noncomputable section

namespace Cert.Pre_positions_finite

open Idealize.ShloMosaic

/-- The predicate's side conditions hold. -/
theorem sides : Facts where
  bcast_S_S16384x3 := by decide
  reducesTo_S16384x3_S_d0_1 := by decide
  h_S_ := by decide
  bcast_S_S2048x3 := by decide
  reducesTo_S2048x3_S_d0_1 := by decide

/-- The word of infinity. -/
theorem inf_word : Ideal.ofBits .f32 2139095040#32 = (⊤ : EReal) := by
  simp [Ideal.ofBits, Ideal.ieee]

/-- A number whose absolute value is below infinity is real. -/
theorem real_of_abs_lt (x : EReal) (h : max x (-x) < ⊤) : ∃ v : ℝ, x = (v : EReal) := by
  induction x with
  | bot => simp at h
  | coe v => exact ⟨v, rfl⟩
  | top => simp at h

/-- Where the comparison with infinity is one, the entry is real. -/
theorem real_of_cmp (x : EReal) (h : FloatOps.cmpf (F := Ideal) (φ := .f32) .olt (FloatOps.absf (F := Ideal) (φ := .f32) x) (Ideal.ofBits .f32 2139095040#32) = 1#1) :
    ∃ v : ℝ, x = (v : EReal) := by
  refine real_of_abs_lt x ?_
  rw [inf_word] at h
  by_contra hc
  have h0 : BitVec.ofBool (decide (max x (-x) < ⊤)) = 1#1 := h
  rw [decide_eq_false hc] at h0
  exact absurd h0 (by decide)

/-- Where the precondition holds, every position is real. -/
theorem read (X : FVec Ideal S16384x3 .f32) (FT : FVec Ideal S16384x512 .f32) (Y : FVec Ideal S2048x3 .f32) (LF : FVec Ideal S2048x512 .f32)
    (h : @fn sides Ideal _ X FT Y LF = fun _ => 1#1) :
    (∀ i x, ∃ v : ℝ, X (ix2 i x) = (v : EReal)) ∧ ∀ r x, ∃ v : ℝ, Y (ix2 r x) = (v : EReal) := by
  have h0 := congrFun h ix0
  unfold fn at h0
  dsimp only at h0
  obtain ⟨h1, h2⟩ := IntOp.andi_eq_one.mp h0
  have : Subsingleton S_.Idx := ⟨fun a b => funext fun k => k.elim0⟩
  refine ⟨fun i x => real_of_cmp _ ?_, fun r x => real_of_cmp _ ?_⟩
  · exact Host.reduce_andi_all _ _ _ _ _ h1 (ix2 i x)
  · exact Host.reduce_andi_all _ _ _ _ _ h2 (ix2 r x)

end Cert.Pre_positions_finite
-- ==== Proof.lean ====
/- The proof of the claims of proof/Defs.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.AtBits.Run
public import proofs.«01_k».proof.Proof.Equation
public import proofs.«01_k».proof.Proof.Finite
public import Idealize.ShloMosaic.Lib.Claim

@[expose] public section

noncomputable section

namespace Cert.Proof

open Idealize.ShloMosaic Idealize.ShloMosaic.TcCoe Idealize.SL.Sem

/-- The kernel as compiled terminates, its arguments unchanged, every semaphore counter at zero. -/
theorem kernel_frame : quiescent_Kernel (hKernel := Cert.Kernel.Gen.facts) := fun m ρ _ =>
  θ_run_mono (Cert.Kernel.Select.run (F := Bits) m ρ) fun _ h => ⟨fun c => (h.1 c).2, h.2⟩

/-- So does the kernel over the extended reals. -/
theorem ideal_frame : quiescent_KernelIdeal (hKernelIdeal := Cert.KernelIdeal.Gen.facts) := fun m ρ _ =>
  θ_run_mono (Cert.KernelIdeal.Select.run (F := Ideal) m ρ) fun _ h => ⟨fun c => (h.1 c).2, h.2⟩

/-- So does the reference over the extended reals. -/
theorem reference_frame : quiescent_ReferenceIdeal (hReferenceIdeal := Cert.ReferenceIdeal.Gen.facts) := fun m ρ _ =>
  θ_run_mono (Cert.ReferenceIdeal.Value.run (F := Ideal) m ρ) fun r h => ⟨fun c => (h c).2, sem_eq_zero_of_no_sems (by decide) r.2⟩

/-- From real positions, kernel and reference end with the same result: the ligand features summed, and the mean over the
ligand atoms of the summed features of their sixteen nearest protein atoms. -/
theorem equal_results : algebraic_KernelIdeal_ReferenceIdeal_pre_positions_finite (hKernelIdeal := Cert.KernelIdeal.Gen.facts)
    (hReferenceIdeal := Cert.ReferenceIdeal.Gen.facts) (hPre_positions_finite := Cert.Pre_positions_finite.sides) := by
  intro m g m' g' hpre hargs
  refine ⟨fun c => Cert.KernelIdeal.Gen.V5 m (Cert.KernelIdeal.Select.outs m) c Cert.KernelIdeal.main_v0, ?_, ?_⟩
  · exact θ_run_mono (Cert.KernelIdeal.Select.run (F := Ideal) m g) fun _ h => h.1
  · refine θ_run_mono (Cert.ReferenceIdeal.Value.run (F := Ideal) m' g') fun r h c => ⟨?_, (h c).2⟩
    obtain ⟨hX, hY⟩ := Cert.Pre_positions_finite.read _ _ _ _ (hpre c)
    obtain ⟨e0, e1, e2, e3⟩ := hargs c
    refine (h c).1.trans ((Cert.ReferenceIdeal.Steps.res_eq m' c).trans ?_)
    rw [e0, e1, e2, e3]
    exact (Cert.KernelIdeal.Select.result_at m c _ _ _ _ rfl rfl rfl rfl hX hY).symm

theorem claim : Cert.Claim := ⟨Cert.Kernel.Gen.facts, Cert.KernelIdeal.Gen.facts, Cert.ReferenceIdeal.Gen.facts, Cert.Pre_positions_finite.sides,
  kernel_frame, ideal_frame, fun m g _ => ideal_frame m g trivial, reference_frame, fun m g _ => reference_frame m g trivial, trivial, equal_results⟩

end Cert.Proof

end
